-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled_KernelIdeal [hPre_finite_and_labelled_KernelIdeal : Cert.Pre_finite_and_labelled_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled_ReferenceIdeal [hPre_finite_and_labelled_ReferenceIdeal : Cert.Pre_finite_and_labelled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_labelled_KernelIdeal [hKernelIdeal : Cert.KernelIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_labelled_ReferenceIdeal [hReferenceIdeal : Cert.ReferenceIdeal.Facts] [hPre_finite_and_labelled_ReferenceIdeal : Cert.Pre_finite_and_labelled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_labelled_KernelIdeal [hKernelIdeal : Cert.KernelIdeal.Facts] [hReferenceIdeal : Cert.ReferenceIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_labelled_KernelIdeal : Cert.Pre_finite_and_labelled_KernelIdeal.Facts) (hPre_finite_and_labelled_ReferenceIdeal : Cert.Pre_finite_and_labelled_ReferenceIdeal.Facts),
    quiescent_Kernel (hKernel := hKernel)
    ∧ quiescent_KernelIdeal (hKernelIdeal := hKernelIdeal)
    ∧ quiescent_KernelIdeal_pre_finite_and_labelled_KernelIdeal (hKernelIdeal := hKernelIdeal) (hPre_finite_and_labelled_KernelIdeal := hPre_finite_and_labelled_KernelIdeal)
    ∧ quiescent_ReferenceIdeal (hReferenceIdeal := hReferenceIdeal)
    ∧ quiescent_ReferenceIdeal_pre_finite_and_labelled_ReferenceIdeal (hReferenceIdeal := hReferenceIdeal) (hPre_finite_and_labelled_ReferenceIdeal := hPre_finite_and_labelled_ReferenceIdeal)
    ∧ preserves_Kernel_KernelIdeal
    ∧ algebraic_KernelIdeal_ReferenceIdeal_pre_finite_and_labelled_KernelIdeal (hKernelIdeal := hKernelIdeal) (hReferenceIdeal := hReferenceIdeal) (hPre_finite_and_labelled_KernelIdeal := hPre_finite_and_labelled_KernelIdeal)
-- ==== Pre_finite_and_labelled_KernelIdeal.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  bcast_S_S2048x16384 : S_.BroadcastsInDim S2048x16384 (![] : Fin 0 → Fin S2048x16384.rank)
  bcast_S_S1024 : S_.BroadcastsInDim S1024 (![] : Fin 0 → Fin S1024.rank)

variable [Facts]

def fn {F : FTy → Type} [FloatOps F] (main_arg0 : FVec F S1024x2048 .f32) (main_arg1 : FVec F S2048x16384 .f32) (main_arg2 : IVec S1024 32) : IVec S1024x2048 1 × IVec S2048x16384 1 × IVec S1024 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x16384 .f32 := Host.absf main_arg1
  let main_cst_0 : FVec F S_ .f32 := constant S_ .f32 0x7F800000#32
  let main_v4 : FVec F S2048x16384 .f32 := broadcastInDim S2048x16384 ![] bcast_S_S2048x16384 main_cst_0
  let main_v5 : IVec S2048x16384 1 := cmpf .olt main_v3 main_v4
  let main_c : IVec S_ 32 := constantI S_ 32 0#32
  let main_v6 : IVec S1024 32 := broadcastInDim S1024 ![] bcast_S_S1024 main_c
  let main_v7 : IVec S1024 1 := cmpi .sge main_arg2 main_v6
  let main_c_1 : IVec S_ 32 := constantI S_ 32 32768#32
  let main_v8 : IVec S1024 32 := broadcastInDim S1024 ![] bcast_S_S1024 main_c_1
  let main_v9 : IVec S1024 1 := cmpi .slt main_arg2 main_v8
  let main_v10 : IVec S1024 1 := andi main_v7 main_v9
  (main_v2, main_v5, main_v10)
-- ==== Pre_finite_and_labelled_ReferenceIdeal.lean ====
abbrev S1024x2048 : Shape := ⟨2, ![1024, 2048]⟩
abbrev S2048x32768 : Shape := ⟨2, ![2048, 32768]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  bcast_S_S2048x32768 : S_.BroadcastsInDim S2048x32768 (![] : Fin 0 → Fin S2048x32768.rank)
  bcast_S_S1024 : S_.BroadcastsInDim S1024 (![] : Fin 0 → Fin S1024.rank)

variable [Facts]

def fn {F : FTy → Type} [FloatOps F] (main_arg0 : FVec F S1024x2048 .f32) (main_arg1 : FVec F S2048x32768 .f32) (main_arg2 : IVec S1024 32) : IVec S1024x2048 1 × IVec S2048x32768 1 × IVec S1024 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x32768 .f32 := Host.absf main_arg1
  let main_cst_0 : FVec F S_ .f32 := constant S_ .f32 0x7F800000#32
  let main_v4 : FVec F S2048x32768 .f32 := broadcastInDim S2048x32768 ![] bcast_S_S2048x32768 main_cst_0
  let main_v5 : IVec S2048x32768 1 := cmpf .olt main_v3 main_v4
  let main_c : IVec S_ 32 := constantI S_ 32 0#32
  let main_v6 : IVec S1024 32 := broadcastInDim S1024 ![] bcast_S_S1024 main_c
  let main_v7 : IVec S1024 1 := cmpi .sge main_arg2 main_v6
  let main_c_1 : IVec S_ 32 := constantI S_ 32 32768#32
  let main_v8 : IVec S1024 32 := broadcastInDim S1024 ![] bcast_S_S1024 main_c_1
  let main_v9 : IVec S1024 1 := cmpi .slt main_arg2 main_v8
  let main_v10 : IVec S1024 1 := andi main_v7 main_v9
  (main_v2, main_v5, main_v10)
-- ==== Kernel.lean ====
abbrev S1024x2048 : Shape := ⟨2, ![1024, 2048]⟩
abbrev S2048x16384 : Shape := ⟨2, ![2048, 16384]⟩
abbrev S1024 : Shape := ⟨1, ![1024]⟩
abbrev S1024x1 : Shape := ⟨2, ![1024, 1]⟩
abbrev S2x2048x1024 : Shape := ⟨3, ![2, 2048, 1024]⟩
abbrev S1024x2 : Shape := ⟨2, ![1024, 2]⟩
abbrev S3x1024x2 : Shape := ⟨3, ![3, 1024, 2]⟩
abbrev S2 : Shape := ⟨1, ![2]⟩
abbrev S3 : Shape := ⟨1, ![3]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S1024x1024 : Shape := ⟨2, ![1024, 1024]⟩
abbrev S1x1024x2 : Shape := ⟨3, ![1, 1024, 2]⟩
abbrev S1x1024x1 : Shape := ⟨3, ![1, 1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024, .i32⟩
  | .hbm, ⟨3, _⟩ => ⟨S1024x1, .i32⟩
  | .hbm, ⟨4, _⟩ => ⟨S1024x1, .f32⟩
  | .hbm, ⟨5, _⟩ => ⟨S1024, .f32⟩
  | .local _ .vmem, ⟨0, _⟩ => ⟨S1024x2048, .f32⟩
  | .local _ .vmem, ⟨1, _⟩ => ⟨S1024x1, .i32⟩
  | .local _ .vmem, ⟨2, _⟩ => ⟨S1024x1, .f32⟩
  | .local _ .vmem, ⟨3, _⟩ => ⟨S2x2048x1024, .f32⟩
  | .local _ .vmem, ⟨4, _⟩ => ⟨S1024x2, .f32⟩
  | .local _ .vmem, ⟨5, _⟩ => ⟨S3x1024x2, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_4 v2
  let c4_i32_8 : BitVec 32 := 4#32
  let v18 : BitVec 32 := Scalar.muli v14 c4_i32_8
  let v19 : BitVec 32 := Scalar.addi c0_i32 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v20 : BitVec 32 := Scalar.muli v5 c2_i32_9
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v22 : BitVec 32 := Scalar.muli v8 c1_i32_10
  let v23 : BitVec 32 := Scalar.addi v21 v22
  v23.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v24 : BitVec 32 := Scalar.muli v2 c4_i32_12
  let v25 : BitVec 32 := Scalar.addi c0_i32_13 v24
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_5 v5
  let c2_i32_14 : BitVec 32 := 2#32
  let v26 : BitVec 32 := Scalar.muli v15 c2_i32_14
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v28 : BitVec 32 := Scalar.muli v8 c1_i32_15
  let v29 : BitVec 32 := Scalar.addi v27 v28
  v29.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v30 : BitVec 32 := Scalar.muli v2 c4_i32_17
  let v31 : BitVec 32 := Scalar.addi c0_i32_18 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v32 : BitVec 32 := Scalar.muli v5 c2_i32_19
  let v33 : BitVec 32 := Scalar.addi v31 v32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_6 v8
  let c1_i32_20 : BitVec 32 := 1#32
  let v34 : BitVec 32 := Scalar.muli v16 c1_i32_20
  let v35 : BitVec 32 := Scalar.addi v33 v34
  v35.toNat
def k0_off1 (d0 : Dev nD) (c0_i32_21 : BitVec 32) : Fin 2 → Nat :=
  let c0_i32_26 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c4096_i32 : BitVec 32 := 4096#32
  let v11 : BitVec 32 := Scalar.muli v10 c4096_i32
  let v36 : BitVec 32 := Scalar.addi v11 c0_i32_21
  ![0, v36.toNat]
def k0_dev4 (d0 : Dev nD) : Nat :=
  let c0_i32_121 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_4 v2
  let c4_i32_120 : BitVec 32 := 4#32
  let v177 : BitVec 32 := Scalar.muli v14 c4_i32_120
  let v178 : BitVec 32 := Scalar.addi c0_i32_121 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v179 : BitVec 32 := Scalar.muli v5 c2_i32_122
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v181 : BitVec 32 := Scalar.muli v8 c1_i32_123
  let v182 : BitVec 32 := Scalar.addi v180 v181
  v182.toNat
def k0_dev5 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v215 : BitVec 32 := Scalar.muli v2 c4_i32_154
  let v216 : BitVec 32 := Scalar.addi c0_i32_155 v215
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_5 v5
  let c2_i32_156 : BitVec 32 := 2#32
  let v217 : BitVec 32 := Scalar.muli v15 c2_i32_156
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v219 : BitVec 32 := Scalar.muli v8 c1_i32_157
  let v220 : BitVec 32 := Scalar.addi v218 v219
  v220.toNat
def k0_dev6 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v253 : BitVec 32 := Scalar.muli v2 c4_i32_188
  let v254 : BitVec 32 := Scalar.addi c0_i32_189 v253
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v255 : BitVec 32 := Scalar.muli v5 c2_i32_190
  let v256 : BitVec 32 := Scalar.addi v254 v255
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_6 v8
  let c1_i32_191 : BitVec 32 := 1#32
  let v257 : BitVec 32 := Scalar.muli v16 c1_i32_191
  let v258 : BitVec 32 := Scalar.addi v256 v257
  v258.toNat
def k0_dev7 (d0 : Dev nD) : Nat :=
  let c0_i32_218 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_4 v2
  let c4_i32_217 : BitVec 32 := 4#32
  let v288 : BitVec 32 := Scalar.muli v14 c4_i32_217
  let v289 : BitVec 32 := Scalar.addi c0_i32_218 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v290 : BitVec 32 := Scalar.muli v5 c2_i32_219
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v292 : BitVec 32 := Scalar.muli v8 c1_i32_220
  let v293 : BitVec 32 := Scalar.addi v291 v292
  v293.toNat
def k0_dev8 (d0 : Dev nD) : Nat :=
  let c0_i32_223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_222 : BitVec 32 := 4#32
  let v294 : BitVec 32 := Scalar.muli v2 c4_i32_222
  let v295 : BitVec 32 := Scalar.addi c0_i32_223 v294
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_5 v5
  let c2_i32_224 : BitVec 32 := 2#32
  let v296 : BitVec 32 := Scalar.muli v15 c2_i32_224
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v298 : BitVec 32 := Scalar.muli v8 c1_i32_225
  let v299 : BitVec 32 := Scalar.addi v297 v298
  v299.toNat
def k0_dev9 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v300 : BitVec 32 := Scalar.muli v2 c4_i32_227
  let v301 : BitVec 32 := Scalar.addi c0_i32_228 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v302 : BitVec 32 := Scalar.muli v5 c2_i32_229
  let v303 : BitVec 32 := Scalar.addi v301 v302
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_6 v8
  let c1_i32_230 : BitVec 32 := 1#32
  let v304 : BitVec 32 := Scalar.muli v16 c1_i32_230
  let v305 : BitVec 32 := Scalar.addi v303 v304
  v305.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024 : Shape := ⟨1, ![1024]⟩
abbrev S1024x32768 : Shape := ⟨2, ![1024, 32768]⟩
abbrev S_ : Shape := ⟨0, ![]⟩
abbrev S1024x1 : Shape := ⟨2, ![1024, 1]⟩
abbrev S1024x2 : Shape := ⟨2, ![1024, 2]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024, .i32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Vals.lean ====
/-
  What the kernel computes, as functions of what every device holds at entry: a device's sum of exponentials and label
  logit over its own 4096 columns, the packet it sends at each of the three exchange steps, and the result it stores; and
  how the kernel's sliced windows read and write those values. No program logic here.
-/
module

public import proofs.«01_k».proof.Proof.Gen.KernelIdeal
public import proofs.«01_k».proof.Proof.Gen.KernelIdeal.Skeleton
public import Idealize.ShloMosaic.Lib.ValueIdxCore
public import Idealize.ShloMosaic.Lib.ValueLayout
public import Idealize.ShloMosaic.Lib.Pipeline.Value

@[expose] public section

noncomputable section

namespace Cert.KernelIdeal.Run

open Idealize.ShloMosaic Idealize.ShloMosaic.ValueIdx
open Cert.KernelIdeal Cert.KernelIdeal.Gen

variable {F : FTy → Type} [FloatOps F]

/-! ## Partners -/

/-- The device across mesh axis `r` (0 for x, 1 for y, 2 for z) from `c`: its row-major number with one bit flipped. -/
def prt (r : Fin 3) (c : Dev nD) : Dev nD :=
  match r with
  | 0 => ⟨(c.val + 4) % 8, Nat.mod_lt _ (by decide)⟩
  | 1 => ⟨if c.val % 4 < 2 then c.val + 2 else c.val - 2, by have := c.isLt; change _ < 8; change _ < 8 at this; split <;> omega⟩
  | 2 => ⟨if c.val % 2 < 1 then c.val + 1 else c.val - 1, by have := c.isLt; change _ < 8; change _ < 8 at this; split <;> omega⟩

/-- A partner's partner across the same axis is the device itself. -/
theorem prt_prt (r : Fin 3) (c : Dev nD) : prt r (prt r c) = c := by revert r c; decide
/-- Crossing axis `r` as a permutation of the devices. -/
def prtE (r : Fin 3) : Dev nD ≃ Dev nD := ⟨prt r, prt r, prt_prt r, prt_prt r⟩
/-- No device is its own partner. -/
theorem prt_ne (r : Fin 3) (c : Dev nD) : prt r c ≠ c := by revert r c; decide

theorem dev1_eq (c : Dev nD) : (⟨k0_dev1 c, Facts₀.k0_dev1_lt c⟩ : Dev nD) = prt 0 c := by revert c; decide
theorem dev2_eq (c : Dev nD) : (⟨k0_dev2 c, Facts₀.k0_dev2_lt c⟩ : Dev nD) = prt 1 c := by revert c; decide
theorem dev3_eq (c : Dev nD) : (⟨k0_dev3 c, Facts₀.k0_dev3_lt c⟩ : Dev nD) = prt 2 c := by revert c; decide
theorem dev4_eq (c : Dev nD) : (⟨k0_dev4 c, Facts₀.k0_dev4_lt c⟩ : Dev nD) = prt 0 c := by revert c; decide
theorem dev5_eq (c : Dev nD) : (⟨k0_dev5 c, Facts₀.k0_dev5_lt c⟩ : Dev nD) = prt 1 c := by revert c; decide
theorem dev6_eq (c : Dev nD) : (⟨k0_dev6 c, Facts₀.k0_dev6_lt c⟩ : Dev nD) = prt 2 c := by revert c; decide
theorem dev7_eq (c : Dev nD) : (⟨k0_dev7 c, Facts₀.k0_dev7_lt c⟩ : Dev nD) = prt 0 c := by revert c; decide
theorem dev8_eq (c : Dev nD) : (⟨k0_dev8 c, Facts₀.k0_dev8_lt c⟩ : Dev nD) = prt 1 c := by revert c; decide
theorem dev9_eq (c : Dev nD) : (⟨k0_dev9 c, Facts₀.k0_dev9_lt c⟩ : Dev nD) = prt 2 c := by revert c; decide

/-! ## The step values -/

/-- A column of one float per token. -/
abbrev Col (F : FTy → Type) : Type := FVec F S1024x1 .f32

/-- What one device holds at entry: the tokens `x`, its block of `W`, and the labels as a column. -/
structure Inp (F : FTy → Type) where
  x : Vec F S1024x2048 .f32
  w : Vec F S2048x16384 .f32
  lab : Vec F S1024x1 .i32

/-- The word `v13` of device `c`: the number of the first column of `W` it works on. -/
def w13 (c : Dev nD) : BitVec 32 :=
  let w : BitVec 32 := Dev.word c
  let v2 := Scalar.remsi (Scalar.divsi w 4#32) 2#32
  let v5 := Scalar.remsi (Scalar.divsi w 2#32) 2#32
  let v8 := Scalar.remsi (Scalar.divsi w 1#32) 2#32
  Scalar.addi (Scalar.muli v2 16384#32) (Scalar.muli (Scalar.addi (Scalar.muli v5 2#32) v8) 4096#32)

/-- The column numbers within a tile. -/
def io : IVec S1024x1024 32 := iota .tc S1024x1024 32 [1] Gen.facts₀.iota_S1024x1024_d1_w32

/-- The window of `W` device `c` fetches as tile `t`. -/
def wSl (c : Dev nD) (t : Fin 4) : Memref sig .tc .hbm S2048x1024 .f32 :=
  (Memref.whole main_arg1).slice (Rect.unit (s := S2048x16384) (k0_off1 c (BitVec.ofNat 32 (1024 * t.val))) S2048x1024.size (Facts₀.k0_off1_inb c t)) (fun _ => rfl)

theorem tileCasts : S2048x1024.ShapeCasts S1x2048x1024 := by decide

/-- Tile `t` of device `c` as the kernel loads it from its buffer. -/
def wT (I : Dev nD → Inp F) (c : Dev nD) (t : Fin 4) : Vec F S1x2048x1024 .f32 :=
  shapeCast S1x2048x1024 ((wSl c t).view.read (Elt F) (I c).w) tileCasts

variable (I : Dev nD → Inp F)

/-- The sum of exponentials after tiles 0, 1 and all four. -/
def sA (c : Dev nD) : Col F := k0_pay6 k0_pay2 (k0_pay4 (I c).x) (wT I c 0)
def sB (c : Dev nD) : Col F := k0_pay10 (sA I c) (k0_pay8 (I c).x) (wT I c 1)
def sD (c : Dev nD) : Col F := k0_pay16 (sB I c) (k0_pay12 (I c).x) (wT I c 2) (I c).x (wT I c 3)
/-- The label logit after tiles 0, 1, 2 and all four. -/
def lA (c : Dev nD) : Col F := k0_pay7 (w13 c) k0_pay3 io (k0_pay4 (I c).x) (wT I c 0) (I c).lab
def lB (c : Dev nD) : Col F := k0_pay11 (w13 c) io (lA I c) (k0_pay8 (I c).x) (wT I c 1) (I c).lab
def lC (c : Dev nD) : Col F := k0_pay14 (w13 c) io (lB I c) (k0_pay12 (I c).x) (wT I c 2) (I c).lab
def lD (c : Dev nD) : Col F := k0_pay18 io (lC I c) (k0_pay15 (I c).x (wT I c 3)) (k0_pay17 (I c).lab) (Scalar.addi (w13 c) 3072#32)

/-- A column as the kernel loads it from a receive slot. -/
def row (v : Col F) : Vec F S1x1024x1 .f32 := fun i => v (ix2 (i 1) (0 : Fin 1))

/-- One exchange: every device adds the column of its partner across axis `r` to its own. -/
def nx (r : Fin 3) (f : Dev nD → Col F) (c : Dev nD) : Col F := k0_pay21 (f c) (row (f (prt r c)))

/-- The sums, and the label logits, at the start of exchange step `r`. -/
def stS : Fin 3 → Dev nD → Col F
  | 0 => sD I
  | 1 => nx 0 (sD I)
  | 2 => nx 1 (nx 0 (sD I))
def stL : Fin 3 → Dev nD → Col F
  | 0 => lD I
  | 1 => nx 0 (lD I)
  | 2 => nx 1 (nx 0 (lD I))

/-- The column the kernel stores. -/
def res (c : Dev nD) : Col F := k0_pay1 (stL I 2 c) (nx 2 (stS I 2) c) (row (stL I 2 (prt 2 c)))

/-- Two columns packed side by side. -/
def pk (s l : Col F) : Vec F S1024x2 .f32 := fun i => if (i 1).val = 0 then s (ix2 (i 0) (0 : Fin 1)) else l (ix2 (i 0) (0 : Fin 1))

/-- The packet device `c` sends at step `r`. -/
def pkt (r : Fin 3) (c : Dev nD) : Vec F S1024x2 .f32 := pk (stS I r c) (stL I r c)

/-- Receive-buffer contents with `p` in every slot. -/
def rcv (p : Vec F S1024x2 .f32) : Vec F S3x1024x2 .f32 := fun i => p (ix2 (i 1) (i 2))

/-! ## The buffers and their windows -/

abbrev xM : Memref sig .tc .vmem S1024x2048 .f32 := Memref.whole cc0_stg0_0
abbrev labM : Memref sig .tc .vmem S1024x1 .i32 := Memref.whole cc0_stg1_0
abbrev oM : Memref sig .tc .vmem S1024x1 .f32 := Memref.whole cc0_stg2_0
abbrev wM : Memref sig .tc .hbm S2048x16384 .f32 := Memref.whole main_arg1
abbrev bM : Memref sig .tc .vmem S2x2048x1024 .f32 := Memref.whole cc0_scratch0
abbrev sM : Memref sig .tc .vmem S1024x2 .f32 := Memref.whole cc0_scratch1
abbrev rM : Memref sig .tc .vmem S3x1024x2 .f32 := Memref.whole cc0_scratch2

/-- The two slots of the tile buffer. -/
abbrev b0 : Memref sig .tc .vmem S2048x1024 .f32 := (bM.slice (Rect.unit (s := S2x2048x1024) ![0, 0, 0] S1x2048x1024.size Facts₀.inb_S2x2048x1024_S1x2048x1024_0_0_0) (fun _ => rfl)).squeeze S2048x1024 Facts₀.squeezes_S1x2048x1024_S2048x1024
abbrev b1 : Memref sig .tc .vmem S2048x1024 .f32 := (bM.slice (Rect.unit (s := S2x2048x1024) ![1, 0, 0] S1x2048x1024.size Facts₀.inb_S2x2048x1024_S1x2048x1024_1_0_0) (fun _ => rfl)).squeeze S2048x1024 Facts₀.squeezes_S1x2048x1024_S2048x1024

/-- The three slots of the receive buffer. -/
abbrev r0 : Memref sig .tc .vmem S1024x2 .f32 := (rM.slice (Rect.unit (s := S3x1024x2) ![0, 0, 0] S1x1024x2.size Facts₀.inb_S3x1024x2_S1x1024x2_0_0_0) (fun _ => rfl)).squeeze S1024x2 Facts₀.squeezes_S1x1024x2_S1024x2
abbrev r1 : Memref sig .tc .vmem S1024x2 .f32 := (rM.slice (Rect.unit (s := S3x1024x2) ![1, 0, 0] S1x1024x2.size Facts₀.inb_S3x1024x2_S1x1024x2_1_0_0) (fun _ => rfl)).squeeze S1024x2 Facts₀.squeezes_S1x1024x2_S1024x2
abbrev r2 : Memref sig .tc .vmem S1024x2 .f32 := (rM.slice (Rect.unit (s := S3x1024x2) ![2, 0, 0] S1x1024x2.size Facts₀.inb_S3x1024x2_S1x1024x2_2_0_0) (fun _ => rfl)).squeeze S1024x2 Facts₀.squeezes_S1x1024x2_S1024x2

/-- Reading the whole of `x`, of the labels; storing the whole result. -/
theorem read_x (f : Vec F S1024x2048 .f32) (h) : xM.view.readAt (Elt F) (Rect.unit (s := S1024x2048) ![0, 0] S1024x2048.size h).toLoadRect f = f :=
  Memref.readAt_unit_zero (Elt F) cc0_stg0_0 (by decide) h f
theorem read_lab (f : Vec F S1024x1 .i32) (h) : labM.view.readAt (Elt F) (Rect.unit (s := S1024x1) ![0, 0] S1024x1.size h).toLoadRect f = f :=
  Memref.readAt_unit_zero (Elt F) cc0_stg1_0 (by decide) h f
theorem write_o (f w : Vec F S1024x1 .f32) (h) : (oM.access (Rect.unit (s := S1024x1) ![0, 0] S1024x1.size h)).write (Elt F) f w Finset.univ = w :=
  Memref.write_access_unit_zero_univ (Elt F) cc0_stg2_0 (by decide) h f w

/-- A tile landed in a slot of the tile buffer loads as the tile with a leading unit axis. -/
theorem read_tile (R : Rect S2x2048x1024) (hR : R.shape = S1x2048x1024) (hu : ∀ a, R.stride a = 1) (hq : R.shape.Squeezes S2048x1024)
    (hc : S2048x1024.ShapeCasts R.shape) (f : Vec F S2x2048x1024 .f32) (v : Vec F S2048x1024 .f32) :
    bM.view.readAt (Elt F) R.toLoadRect (((bM.slice R hu).squeeze S2048x1024 hq).view.write (Elt F) f v Finset.univ) = shapeCast R.shape v hc := by
  have e := ((bM.slice R hu).squeeze S2048x1024 hq).view.read_write_univ (Val := Elt F) f v
  have hc' : R.shape.ShapeCasts S2048x1024 := by rw [hR]; decide
  have e2 := Memref.read_squeeze_slice (Val := Elt F) bM R hu hq hc' (((bM.slice R hu).squeeze S2048x1024 hq).view.write (Elt F) f v Finset.univ)
  rw [e2] at e
  conv_rhs => rw [← e]
  exact (shapeCast_shapeCast _ hc' hc).symm

theorem read_b0 (I : Dev nD → Inp F) (c : Dev nD) (t : Fin 4) (f : Vec F S2x2048x1024 .f32) (h) :
    bM.view.readAt (Elt F) (Rect.unit (s := S2x2048x1024) ![0, 0, 0] S1x2048x1024.size h).toLoadRect
      (b0.view.write (Elt F) f ((wSl c t).view.read (Elt F) (I c).w) Finset.univ) = wT I c t :=
  read_tile _ rfl (fun _ => rfl) Facts₀.squeezes_S1x2048x1024_S2048x1024 tileCasts f _
theorem read_b1 (I : Dev nD → Inp F) (c : Dev nD) (t : Fin 4) (f : Vec F S2x2048x1024 .f32) (h) :
    bM.view.readAt (Elt F) (Rect.unit (s := S2x2048x1024) ![1, 0, 0] S1x2048x1024.size h).toLoadRect
      (b1.view.write (Elt F) f ((wSl c t).view.read (Elt F) (I c).w) Finset.univ) = wT I c t :=
  read_tile _ rfl (fun _ => rfl) Facts₀.squeezes_S1x2048x1024_S2048x1024 tileCasts f _

/-- The two column stores leave the packed pair, whatever the buffer held. -/
theorem write_pk (f : Vec F S1024x2 .f32) (s l : Col F) (h0 h1) :
    (sM.access (Rect.unit (s := S1024x2) ![0, 1] S1024x1.size h1)).write (Elt F) ((sM.access (Rect.unit (s := S1024x2) ![0, 0] S1024x1.size h0)).write (Elt F) f s Finset.univ) l Finset.univ = pk s l := by
  funext i
  have hi : (i 1).val < 2 := (i 1).isLt
  by_cases h : (i 1).val = 0
  · have hne : i ∉ (sM.access (Rect.unit (s := S1024x2) ![0, 1] S1024x1.size h1)).setOn Finset.univ := by
      rw [View.setOn_univ]
      intro hm
      have hm' : i ∈ (Rect.unit (s := S1024x2) ![0, 1] S1024x1.size h1).set := by
        rw [← View.set_slice_whole cc0_scratch1 (Rect.unit (s := S1024x2) ![0, 1] S1024x1.size h1)]; exact hm
      have := (Rect.mem_set_unit.mp hm') 1
      have h2 : 1 ≤ (i 1).val := this.1
      omega
    rw [View.write_of_not_mem _ _ _ hne]
    have he : (sM.access (Rect.unit (s := S1024x2) ![0, 0] S1024x1.size h0)).emb (ix2 (i 0) (0 : Fin 1)) = i :=
      funext fun a => Fin.ext (by
        match a with
        | 0 => show 0 + 1 * (i 0).val = _; omega
        | 1 => show 0 + 1 * 0 = _; omega)
    have := View.write_emb_of_mem (v := sM.access (Rect.unit (s := S1024x2) ![0, 0] S1024x1.size h0)) (Val := Elt F) f s (M := Finset.univ) (x := ix2 (i 0) (0 : Fin 1)) (Finset.mem_univ _)
    rw [he] at this
    rw [this]
    unfold pk
    rw [if_pos h]
    rfl
  · have he : (sM.access (Rect.unit (s := S1024x2) ![0, 1] S1024x1.size h1)).emb (ix2 (i 0) (0 : Fin 1)) = i :=
      funext fun a => Fin.ext (by
        match a with
        | 0 => show 0 + 1 * (i 0).val = _; omega
        | 1 => show 1 + 1 * 0 = _; omega)
    have := View.write_emb_of_mem (v := sM.access (Rect.unit (s := S1024x2) ![0, 1] S1024x1.size h1)) (Val := Elt F) ((sM.access (Rect.unit (s := S1024x2) ![0, 0] S1024x1.size h0)).write (Elt F) f s Finset.univ) l (M := Finset.univ) (x := ix2 (i 0) (0 : Fin 1)) (Finset.mem_univ _)
    rw [he] at this
    rw [this]
    unfold pk
    rw [if_neg h]
    rfl

/-- A receive slot reads as the packet, when every slot holds it. -/
theorem read_rcv (o : Fin 3 → Nat) (ho1 : o 1 = 0) (ho2 : o 2 = 0) (h hq) (p : Vec F S1024x2 .f32) :
    ((rM.slice (Rect.unit (s := S3x1024x2) o S1x1024x2.size h) (fun _ => rfl)).squeeze S1024x2 hq).view.read (Elt F) (rcv p) = p := by
  have hc : (Rect.unit (s := S3x1024x2) o S1x1024x2.size h).shape.ShapeCasts S1024x2 := by show S1x1024x2.ShapeCasts S1024x2; decide
  rw [Memref.read_squeeze_slice (Val := Elt F) rM (Rect.unit (s := S3x1024x2) o S1x1024x2.size h) (fun _ => rfl) hq hc (rcv p)]
  funext i
  rw [eq_ix2 i]
  refine (shapeCast_1ab_ab_apply _ hc (i 0) (i 1)).trans ?_
  refine congrArg p (funext fun a => Fin.ext ?_)
  match a with
  | 0 => show o 1 + 1 * (i 0).val = _; rw [ho1]; show 0 + 1 * (i 0).val = (i 0).val; omega
  | 1 => show o 2 + 1 * (i 1).val = _; rw [ho2]; show 0 + 1 * (i 1).val = (i 1).val; omega

/-- A packet landed in a receive slot is, on the slot, the contents `rcv` names. -/
theorem land_rcv (o : Fin 3 → Nat) (ho1 : o 1 = 0) (ho2 : o 2 = 0) (h hq) (p : Vec F S1024x2 .f32) (f : Vec F S3x1024x2 .f32) :
    ∀ i ∈ ((rM.slice (Rect.unit (s := S3x1024x2) o S1x1024x2.size h) (fun _ => rfl)).squeeze S1024x2 hq).view.set,
      ((rM.slice (Rect.unit (s := S3x1024x2) o S1x1024x2.size h) (fun _ => rfl)).squeeze S1024x2 hq).view.write (Elt F) f p Finset.univ i = rcv p i := by
  intro i hi
  have e := View.write_read_eq_piecewise (v := ((rM.slice (Rect.unit (s := S3x1024x2) o S1x1024x2.size h) (fun _ => rfl)).squeeze S1024x2 hq).view) (Val := Elt F) f (rcv p) Finset.univ
  rw [read_rcv o ho1 ho2 h hq p] at e
  rw [e]
  exact Finset.piecewise_eq_of_mem _ _ _ (by rw [View.setOn_univ]; exact hi)

/-- The two column loads of a receive slot. -/
theorem read_col0 (o : Fin 3 → Nat) (ho1 : o 1 = 0) (ho2 : o 2 = 0) (h) (s l : Col F) :
    rM.view.readAt (Elt F) (Rect.unit (s := S3x1024x2) o S1x1024x1.size h).toLoadRect (rcv (pk s l)) = row s := by
  funext i
  have hi : (i 2).val < 1 := (i 2).isLt
  show (if o 2 + 1 * (i 2).val = 0 then s _ else l _) = _
  rw [ho2, if_pos (by omega)]
  refine congrArg s (funext fun a => Fin.ext ?_)
  match a with
  | 0 => show o 1 + 1 * (i 1).val = (i 1).val; omega
  | 1 => rfl
theorem read_col1 (o : Fin 3 → Nat) (ho1 : o 1 = 0) (ho2 : o 2 = 1) (h) (s l : Col F) :
    rM.view.readAt (Elt F) (Rect.unit (s := S3x1024x2) o S1x1024x1.size h).toLoadRect (rcv (pk s l)) = row l := by
  funext i
  show (if o 2 + 1 * (i 2).val = 0 then s _ else l _) = _
  rw [ho2, if_neg (by omega)]
  refine congrArg l (funext fun a => Fin.ext ?_)
  match a with
  | 0 => show o 1 + 1 * (i 1).val = (i 1).val; omega
  | 1 => rfl

end Cert.KernelIdeal.Run

end
-- ==== Proof.Sched.lean ====
/-
  The protocol of the kernel's semaphores: which cell every device pays, by how much, and what is handed over with each
  payment; what each device owes at entry, and why every wait is below what is still owed. The cells of one device are its
  barrier semaphore, one send and one receive semaphore per exchange step, and the exit semaphore.
-/
module

public import proofs.«01_k».proof.Proof.Vals
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The exchange's cells name a duty by the axis it is paid across. -/
abbrev UT : Type := URounds (GSem nD τ sig) (Fin 3)
abbrev UU : Type := UR sig nD τ × (UT × Counters)

local notation "𝕄" => MT nD τ sig Unit (Elt F) ℕ UU ℕ

/-- The staging cells' part. -/
abbrev EP : Emb (UR sig nD τ) (MT nD τ sig Unit (Elt F) ℕ UU ℕ) := embL
/-- The exchange cells' part. -/
def EX : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance EX_landsIn : (EX (F := F)).LandsIn (upEmb : UEmb _ 𝕄) := by unfold EX; infer_instance
/-- The local transfers' part. -/
abbrev EC : UEmb Counters (MT nD τ sig Unit (Elt F) ℕ UU ℕ) := countersEmb

/-! ## Cells -/

/-- The kinds of a device's cells. -/
inductive Kd where
  | bar | ext | snd (r : Fin 3) | rcv (r : Fin 3)
deriving DecidableEq

/-- The semaphores as the kernel names them. -/
abbrev barS : Sem sig := (SemArray.scalar (sig.barrier 0 rfl) : Sems sig S_).sem
abbrev extS : Sem sig := cc0_scratch6.sem
abbrev sS0 : DmaSem sig := ((cc0_scratch4.slice (Rect.unit (s := S3) ![0] S1.size Facts₀.inb_S3_S1_0)).squeeze S_ Facts₀.squeezes_S1_S_).sem
abbrev sS1 : DmaSem sig := ((cc0_scratch4.slice (Rect.unit (s := S3) ![1] S1.size Facts₀.inb_S3_S1_1)).squeeze S_ Facts₀.squeezes_S1_S_).sem
abbrev sS2 : DmaSem sig := ((cc0_scratch4.slice (Rect.unit (s := S3) ![2] S1.size Facts₀.inb_S3_S1_2)).squeeze S_ Facts₀.squeezes_S1_S_).sem
abbrev rS0 : DmaSem sig := ((cc0_scratch5.slice (Rect.unit (s := S3) ![0] S1.size Facts₀.inb_S3_S1_0)).squeeze S_ Facts₀.squeezes_S1_S_).sem
abbrev rS1 : DmaSem sig := ((cc0_scratch5.slice (Rect.unit (s := S3) ![1] S1.size Facts₀.inb_S3_S1_1)).squeeze S_ Facts₀.squeezes_S1_S_).sem
abbrev rS2 : DmaSem sig := ((cc0_scratch5.slice (Rect.unit (s := S3) ![2] S1.size Facts₀.inb_S3_S1_2)).squeeze S_ Facts₀.squeezes_S1_S_).sem
/-- The two semaphores of the tile fetches. -/
abbrev tS0 : DmaSem sig := ((cc0_scratch3.slice (Rect.unit (s := S2) ![0] S1.size Facts₀.inb_S2_S1_0)).squeeze S_ Facts₀.squeezes_S1_S_).sem
abbrev tS1 : DmaSem sig := ((cc0_scratch3.slice (Rect.unit (s := S2) ![1] S1.size Facts₀.inb_S2_S1_1)).squeeze S_ Facts₀.squeezes_S1_S_).sem

/-- The semaphore of each kind. -/
abbrev sem : Kd → SemLoc sig
  | .bar => .reg barS
  | .ext => .reg extS
  | .snd 0 => .dma sS0
  | .snd 1 => .dma sS1
  | .snd 2 => .dma sS2
  | .rcv 0 => .dma rS0
  | .rcv 1 => .dma rS1
  | .rcv 2 => .dma rS2

/-- Device `c`'s cell of kind `k`. -/
abbrev cell (k : Kd) (c : Dev nD) : GSem nD τ sig := ((c : Thread nD τ), sem k)

/-- All kinds. -/
def kds : List Kd := [.bar, .ext, .snd 0, .snd 1, .snd 2, .rcv 0, .rcv 1, .rcv 2]
/-- The kind of a semaphore, if it is one of the exchange's. -/
def kind (s : SemLoc sig) : Option Kd := kds.find? fun k => decide (sem k = s)
theorem mem_kds (k : Kd) : k ∈ kds := by
  rcases k with _ | _ | r | r
  · decide
  · decide
  · revert r; decide
  · revert r; decide
instance : Fintype Kd := ⟨kds.toFinset, fun k => List.mem_toFinset.mpr (mem_kds k)⟩
theorem kind_sem (k : Kd) : kind (sem k) = some k := by revert k; decide
theorem sem_inj {k k' : Kd} (h : sem k = sem k') : k = k' := Option.some.inj ((kind_sem k).symm.trans ((congrArg kind h).trans (kind_sem k')))

/-- The credit of one packet. -/
abbrev N : ℕ := sM.view.dmaCredit
theorem N_pos : 0 < N := View.dmaCredit_pos _ (by decide)

/-! ## What is handed over -/

/-- A buffer of device `c` held whole. -/
abbrev pt (c : Dev nD) (b : Ref sig .tc) (f : b.ty.Contents (Elt F)) : sProp 𝕄 := (Memref.whole b).view.loc (c : Thread nD τ) ↦{fullShare} f

/-- The elements of receive slot `r`. -/
abbrev rSet : Fin 3 → Finset S3x1024x2.Idx
  | 0 => r0.view.set
  | 1 => r1.view.set
  | 2 => r2.view.set
/-- Receive slot `r` of device `c`. -/
abbrev slot (r : Fin 3) (c : Dev nD) (f : Vec F S3x1024x2 .f32) : sProp 𝕄 := rM.view.loc (c : Thread nD τ) ↦[rSet r]{fullShare} f

variable (I : Dev nD → Inp F)

/-- Handed to device `c`'s barrier by its partner across axis `r`: the partner's receive slot, and that the partner's
    receive and exit semaphores are in use. -/
def barPay (r : Fin 3) (c : Dev nD) : sProp 𝕄 :=
  iprop((∃ f, slot r (prt r c) f) ∗ reached EX (cell (.rcv r) (prt r c)) 0 ∗ reached EX (cell .ext (prt r c)) 0)
/-- Handed over by the arrival of step `r`'s packet: the slot holding the partner's packet. -/
def rcvPay (r : Fin 3) (c : Dev nD) : sProp 𝕄 := slot r c (rcv (pkt I r (prt r c)))
/-- Handed back by the departure of step `r`'s packet: the send buffer as sent. -/
def sndPay (r : Fin 3) (c : Dev nD) : sProp 𝕄 := pt c cc0_scratch1 (pkt I r c)

/-- The payments of one cell, by its kind. -/
def dutyK : Option Kd → Finset (Fin 3)
  | some .bar => Finset.univ
  | some .ext => Finset.univ
  | some (.snd _) => {0}
  | some (.rcv _) => {0}
  | none => ∅
def amtK : Option Kd → ℕ
  | some (.snd _) => N
  | some (.rcv _) => N
  | _ => 1
def payK (c : Dev nD) (d : Fin 3) : Option Kd → sProp 𝕄
  | some .bar => barPay d c
  | some (.snd r) => sndPay I r c
  | some (.rcv r) => rcvPay I r c
  | _ => iprop(emp)

/-- The schedule: one round on every cell of a TensorCore's thread. -/
def rd : Rounds.Schedule (GSem nD τ sig) (Fin 3) 𝕄 where
  duties g r := if r = 0 ∧ g.1.2 = .tc then dutyK (kind g.2) else ∅
  unitless _ := False
  amount g _ _ := amtK (kind g.2)
  payload g _ d := payK I g.1.1 d (kind g.2)
  amount_pos g _ _ _ := by
    show 0 < amtK (kind g.2)
    unfold amtK; split
    · exact N_pos
    · exact N_pos
    · exact Nat.one_pos

instance rd_payload_storable (g : GSem nD τ sig) (r : ℕ) (d : Fin 3) : BI.Storable (upEmb : UEmb _ 𝕄) ((rd I).payload g r d) := by
  show BI.Storable upEmb (payK I g.1.1 d (kind g.2))
  unfold payK barPay sndPay rcvPay
  split <;> infer_instance

theorem duties_cell (k : Kd) (c : Dev nD) : (rd I).duties (cell k c) 0 = dutyK (some k) := by
  show (if (0 : ℕ) = 0 ∧ (cell k c).1.2 = .tc then dutyK (kind (sem k)) else ∅) = _
  rw [if_pos ⟨rfl, rfl⟩, kind_sem]
theorem mem_bar (r : Fin 3) (c : Dev nD) : r ∈ (rd I).duties (cell .bar c) 0 := by rw [duties_cell]; exact Finset.mem_univ r
theorem mem_ext (r : Fin 3) (c : Dev nD) : r ∈ (rd I).duties (cell .ext c) 0 := by rw [duties_cell]; exact Finset.mem_univ r
theorem mem_snd (r : Fin 3) (c : Dev nD) : (0 : Fin 3) ∈ (rd I).duties (cell (.snd r) c) 0 := by rw [duties_cell]; exact Finset.mem_singleton_self _
theorem mem_rcv (r : Fin 3) (c : Dev nD) : (0 : Fin 3) ∈ (rd I).duties (cell (.rcv r) c) 0 := by rw [duties_cell]; exact Finset.mem_singleton_self _
theorem duties_later (g : GSem nD τ sig) : ∀ r, 1 ≤ r → (rd I).duties g r = ∅ :=
  fun r hr => if_neg fun h => by have := h.1; omega

theorem amount_cell (k : Kd) (c : Dev nD) (d : Fin 3) : (rd I).amount (cell k c) 0 d = amtK (some k) := by
  show amtK (kind (sem k)) = _; rw [kind_sem]
theorem payload_cell (k : Kd) (c : Dev nD) (d : Fin 3) : (rd I).payload (cell k c) 0 d = payK I c d (some k) := by
  show payK I c d (kind (sem k)) = _; rw [kind_sem]

theorem expect_cell (k : Kd) (c : Dev nD) : (rd I).expect (cell k c) 0 = ∑ _d ∈ dutyK (some k), amtK (some k) := by
  unfold Schedule.expect Schedule.amountOf
  rw [duties_cell]
  exact Finset.sum_congr rfl fun d _ => amount_cell I k c d
theorem expect_bar (c : Dev nD) : (rd I).expect (cell .bar c) 0 = 3 := by rw [expect_cell]; rfl
theorem expect_ext (c : Dev nD) : (rd I).expect (cell .ext c) 0 = 3 := by rw [expect_cell]; rfl
theorem expect_snd (r : Fin 3) (c : Dev nD) : (rd I).expect (cell (.snd r) c) 0 = N := by rw [expect_cell]; exact Finset.sum_singleton _ _
theorem expect_rcv (r : Fin 3) (c : Dev nD) : (rd I).expect (cell (.rcv r) c) 0 = N := by rw [expect_cell]; exact Finset.sum_singleton _ _

omit [FloatOps F] in
/-- A separating product over the three axes. -/
theorem bigSep3 {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

theorem rest_cell (k : Kd) (c : Dev nD) :
    bigSep ((rd I).duties (cell k c) 0 \ ∅) (fun d => (rd I).payload (cell k c) 0 d) = bigSep (dutyK (some k)) (fun d => payK I c d (some k)) := by
  rw [Finset.sdiff_empty, duties_cell, funext fun d => payload_cell I k c d]
theorem rest_bar (c : Dev nD) :
    bigSep ((rd I).duties (cell .bar c) 0 \ ∅) (fun d => (rd I).payload (cell .bar c) 0 d) = iprop(barPay 0 c ∗ barPay 1 c ∗ barPay 2 c) :=
  (rest_cell I .bar c).trans (bigSep3 fun d => barPay d c)
theorem rest_snd (r : Fin 3) (c : Dev nD) :
    bigSep ((rd I).duties (cell (.snd r) c) 0 \ ∅) (fun d => (rd I).payload (cell (.snd r) c) 0 d) = sndPay I r c :=
  (rest_cell I (.snd r) c).trans bigSep_singleton
theorem rest_rcv (r : Fin 3) (c : Dev nD) :
    bigSep ((rd I).duties (cell (.rcv r) c) 0 \ ∅) (fun d => (rd I).payload (cell (.rcv r) c) 0 d) = rcvPay I r c :=
  (rest_cell I (.rcv r) c).trans bigSep_singleton

/-! ## What each device owes -/

abbrev Due : Type := CellTallies nD τ sig Unit

/-- One unit at the barrier, at the exit semaphore, and one packet's credit, of the partner across axis `r`. -/
abbrev owB (r : Fin 3) (c : Dev nD) : Due := tallyAt (cell .bar (prt r c)) () 1
abbrev owX (r : Fin 3) (c : Dev nD) : Due := tallyAt (cell .ext (prt r c)) () 1
abbrev owR (r : Fin 3) (c : Dev nD) : Due := tallyAt (cell (.rcv r) (prt r c)) () N

/-- What is still owed as the payments go: at entry, after each barrier signal, each packet, each exit signal. -/
def o8 (c : Dev nD) : Due := 0 + owX 2 c
def o7 (c : Dev nD) : Due := o8 c + owX 1 c
def o6 (c : Dev nD) : Due := o7 c + owX 0 c
def o5 (c : Dev nD) : Due := o6 c + owR 2 c
def o4 (c : Dev nD) : Due := o5 c + owR 1 c
def o3 (c : Dev nD) : Due := o4 c + owR 0 c
def o2 (c : Dev nD) : Due := o3 c + owB 2 c
def o1 (c : Dev nD) : Due := o2 c + owB 1 c
def o0 (c : Dev nD) : Due := o1 c + owB 0 c

/-- Only TensorCore threads' cells are waited on. -/
def L (g : GSem nD τ sig) : Finset Unit := if g.1.2 = .tc then {()} else ∅
/-- The order of the waits. -/
def lvK : Option Kd → ℕ
  | some .bar => 1
  | some (.rcv r) => 2 + r.val
  | some .ext => 5
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (k : Kd) (c : Dev nD) (u : Unit) : lv (cell k c) u = lvK (some k) := by unfold lv; rw [kind_sem]

/-- Everything in `O` is owed at a level above `b`. -/
def Above (b : ℕ) (O : Due) : Prop := ∀ (g : GSem nD τ sig) (u : Unit), 0 < O g u → u ∈ L g ∧ b < lv g u

theorem Above.zero (b : ℕ) : Above b (0 : Due) := fun _ _ h => absurd h (Nat.lt_irrefl 0)
theorem Above.add {b : ℕ} {O O' : Due} (h : Above b O) (h' : Above b O') : Above b (O + O') := fun g u hg => by
  have hg' : 0 < O g u + O' g u := hg
  rcases Nat.eq_zero_or_pos (O g u) with h0 | h0
  · exact h' g u (by omega)
  · exact h g u h0
theorem Above.tally {b : ℕ} (k : Kd) (c : Dev nD) (n : ℕ) (hb : b < lvK (some k)) : Above b (tallyAt (cell k c) () n) := fun g u hg => by
  rw [tallyAt_apply] at hg
  by_cases h : g = cell k c ∧ u = ()
  · rw [h.1, L_tc, lv_cell]; exact ⟨Finset.mem_singleton_self _, hb⟩
  · rw [if_neg h] at hg; exact absurd hg (Nat.lt_irrefl 0)

theorem above8 (c : Dev nD) : Above 4 (o8 c) := (Above.zero 4).add (Above.tally _ _ _ (by decide))
theorem above6 (c : Dev nD) : Above 4 (o6 c) := ((above8 c).add (Above.tally _ _ _ (by decide))).add (Above.tally _ _ _ (by decide))
theorem Above.mono {b b' : ℕ} {O : Due} (h : Above b O) (hb : b' ≤ b) : Above b' O := fun g u hg => ⟨(h g u hg).1, lt_of_le_of_lt hb (h g u hg).2⟩
theorem above5 (c : Dev nD) : Above 3 (o5 c) := ((above6 c).mono (by decide)).add (Above.tally _ _ _ (by decide))
theorem above4 (c : Dev nD) : Above 2 (o4 c) := ((above5 c).mono (by decide)).add (Above.tally _ _ _ (by decide))
theorem above3 (c : Dev nD) : Above 1 (o3 c) := ((above4 c).mono (by decide)).add (Above.tally _ _ _ (by decide))

/-- A wait at or below level `b` may be made while everything owed is above it. -/
theorem mayWait {b : ℕ} {O : Due} (h : Above b O) (c : Dev nD) (s : SemLoc sig) (hs : lvK (kind s) ≤ b) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => (h g u hg).1)
    (fun p hp => by rw [Finset.mem_singleton.mp hp]; exact hs)
    (fun g u hg => (h g u hg).2)

abbrev 𝒱₀ : Variants := Variants.none

/-- Every cell's invariant, at the names `K`. -/
def invs (K : GSem nD τ sig → ℕ) : sProp 𝕄 := bigSep (Finset.univ : Finset (Kd × Dev nD)) fun p => cellInv EX (rd I) (K (cell p.1 p.2)) (cell p.1 p.2)
instance invs_persistent (K : GSem nD τ sig → ℕ) : BI.Persistent (invs I K) := by unfold invs; infer_instance
theorem invs_at (K : GSem nD τ sig → ℕ) (k : Kd) (c : Dev nD) : invs I K ⊢ cellInv EX (rd I) (K (cell k c)) (cell k c) :=
  (Entails.of_eq (bigSep_erase (Finset.mem_univ (k, c)))).trans sep_elim_left

/-- A finished cell gives its counter back at zero. -/
theorem close (K : GSem nD τ sig → ℕ) (k : Kd) (c : Dev nD) :
    iprop(invs I K ∗ atPos EX (cell k c) (0 + 1) ∅ 0) ⊢ (|={Set.univ}=> semVal (cell k c) 0 : sProp 𝕄) := by
  iintro ⟨#HI, Hat⟩
  iapply (Rounds.cell_close EX (rd I) (Set.mem_univ (K (cell k c))) id (duties_later I (cell k c)))
  isplitr
  · iapply (invs_at I K k c); iexact HI
  · iexact Hat

end Cert.KernelIdeal.Run

end
-- ==== Proof.Tiles.lean ====
/-
  The tile fetches and the first half of the body: the barrier with the three partners, the four tiles of `W` brought in
  through two slots, and the sums they contribute.
-/
module

public import proofs.«01_k».proof.Proof.Sched
public import Idealize.ShloMosaic.Lib.SparseCore.FromWhole

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The weakest precondition of a program of device `c`'s TensorCore. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Tile slots -/

abbrev bSet0 : Finset S2x2048x1024.Idx := b0.view.set
abbrev bSet1 : Finset S2x2048x1024.Idx := b1.view.set
/-- A slot of device `c`'s tile buffer. -/
abbrev bPt0 (c : Dev nD) (f : Vec F S2x2048x1024 .f32) : sProp 𝕄 := bM.view.loc (c : Thread nD τ) ↦[bSet0]{fullShare} f
abbrev bPt1 (c : Dev nD) (f : Vec F S2x2048x1024 .f32) : sProp 𝕄 := bM.view.loc (c : Thread nD τ) ↦[bSet1]{fullShare} f

theorem bSet0_eq : bSet0 = (Rect.unit (s := S2x2048x1024) ![0, 0, 0] S1x2048x1024.size Facts₀.inb_S2x2048x1024_S1x2048x1024_0_0_0).set := by
  show ((View.whole cc0_scratch0).slice _ |>.reshape _ _).set = _
  rw [View.set_reshape, View.set_slice_whole]
theorem bSet1_eq : bSet1 = (Rect.unit (s := S2x2048x1024) ![1, 0, 0] S1x2048x1024.size Facts₀.inb_S2x2048x1024_S1x2048x1024_1_0_0).set := by
  show ((View.whole cc0_scratch0).slice _ |>.reshape _ _).set = _
  rw [View.set_reshape, View.set_slice_whole]

omit [FloatOps F] in
/-- The elements of a whole buffer a load through a rectangle reads. -/
theorem whole_sub (b : Ref sig .tc) (R : Rect b.ty.shape) {S : Finset b.ty.shape.Idx} (h : R.set ⊆ S) :
    (Memref.whole b).view.setOn R.toLoadRect.set ⊆ S := by
  have e : (Memref.whole b).view.setOn R.toLoadRect.set = R.set := (View.set_slice (Memref.whole b).view R).symm.trans (View.set_slice_whole b R)
  rw [e]; exact h

variable (I : Dev nD → Inp F)

/-- A share of device `c`'s block of `W`. -/
abbrev wPt (q : PosShare TreeShare) (c : Dev nD) : sProp 𝕄 := wM.view.loc (c : Thread nD τ) ↦{q} (I c).w
/-- A slot holding tile `t`. -/
abbrev has0 (c : Dev nD) (t : Fin 4) : sProp 𝕄 := iprop(∃ f, bPt0 c (b0.view.write (Elt F) f ((wSl c t).view.read (Elt F) (I c).w) Finset.univ))
abbrev has1 (c : Dev nD) (t : Fin 4) : sProp 𝕄 := iprop(∃ f, bPt1 c (b1.view.write (Elt F) f ((wSl c t).view.read (Elt F) (I c).w) Finset.univ))

/-- The credit of one tile. -/
abbrev NT : ℕ := b0.view.dmaCredit
theorem NT_pos : 0 < NT := View.dmaCredit_pos _ (by decide)

/-- Tile `t` in flight to a slot. -/
def fly0 (q : PosShare TreeShare) (c : Dev nD) (t : Fin 4) : sProp 𝕄 :=
  iprop(∃ f, Transfers.Flight EC (c : Thread nD τ) (.dma tS0) () NT iprop(bPt0 c (b0.view.write (Elt F) f ((wSl c t).view.read (Elt F) (I c).w) Finset.univ) ∗ wPt I q c))
def fly1 (q : PosShare TreeShare) (c : Dev nD) (t : Fin 4) : sProp 𝕄 :=
  iprop(∃ f, Transfers.Flight EC (c : Thread nD τ) (.dma tS1) () NT iprop(bPt1 c (b1.view.write (Elt F) f ((wSl c t).view.read (Elt F) (I c).w) Finset.univ) ∗ wPt I q c))

/-- Starting a fetch of tile `t` into the first slot. -/
theorem wp_fetch0 {α : Type} (q : PosShare TreeShare) (c : Dev nD) (t : Fin 4) (f : Vec F S2x2048x1024 .f32) {h1 h2 h3}
    (k : PUnit → Prog (TpuEff nD τ sig (Elt F) Λ₀ .tc) α) (Q : α → sProp 𝕄) :
    iprop(wPt I q c ∗ bPt0 c f ∗ semVal ((c : Thread nD τ), .dma tS0) 0)
      ⊢ iprop((fly0 I q c t -∗ WP c (k ⟨⟩) Q) -∗ WP c (.op (.enqueueDma (wSl c t) (.here b0) (.dma tS0) h1 h2 h3) k) Q) := by
  iintro ⟨Hw, Hb, Hs⟩ Hk
  iapply (Transfers.wp_dmaFromWhole EC 𝒱₀ (c : Thread nD τ) none (src := wSl c t) (dst := b0) (q := q) (fs := (I c).w) (fd := f) (Sd := bSet0) () NT rfl NT_pos (Finset.Subset.refl _)) $$ [Hw Hb Hs]
  · isplitl [Hw]; · iexact Hw
    isplitl [Hb]; · iexact Hb
    iexact Hs
  iintro Hf
  iapply Hk
  unfold fly0
  iexists f
  iexact Hf
theorem wp_fetch1 {α : Type} (q : PosShare TreeShare) (c : Dev nD) (t : Fin 4) (f : Vec F S2x2048x1024 .f32) {h1 h2 h3}
    (k : PUnit → Prog (TpuEff nD τ sig (Elt F) Λ₀ .tc) α) (Q : α → sProp 𝕄) :
    iprop(wPt I q c ∗ bPt1 c f ∗ semVal ((c : Thread nD τ), .dma tS1) 0)
      ⊢ iprop((fly1 I q c t -∗ WP c (k ⟨⟩) Q) -∗ WP c (.op (.enqueueDma (wSl c t) (.here b1) (.dma tS1) h1 h2 h3) k) Q) := by
  iintro ⟨Hw, Hb, Hs⟩ Hk
  iapply (Transfers.wp_dmaFromWhole EC 𝒱₀ (c : Thread nD τ) none (src := wSl c t) (dst := b1) (q := q) (fs := (I c).w) (fd := f) (Sd := bSet1) () NT rfl NT_pos (Finset.Subset.refl _)) $$ [Hw Hb Hs]
  · isplitl [Hw]; · iexact Hw
    isplitl [Hb]; · iexact Hb
    iexact Hs
  iintro Hf
  iapply Hk
  unfold fly1
  iexists f
  iexact Hf

/-- Waiting for it, while only later things are owed. -/
theorem wp_await0 {α : Type} (q : PosShare TreeShare) (c : Dev nD) (t : Fin 4) {O : Due} (hO : Above 1 O) {s' : Shape} {src : Memref sig .tc .hbm s' .f32}
    {h1 : src.view.WordExact} {h2 : b0.view.WordExact} (k : PUnit → Prog (TpuEff nD τ sig (Elt F) Λ₀ .tc) α) (Q : α → sProp 𝕄) :
    iprop(levAts L lv ∗ fly0 I q c t ∗ ∃ W, owes (c : Thread nD τ) O W)
      ⊢ iprop((iprop(has0 I c t ∗ wPt I q c ∗ semVal ((c : Thread nD τ), .dma tS0) 0 ∗ ∃ W, owes (c : Thread nD τ) O W) -∗ WP c (k ⟨⟩) Q)
        -∗ WP c (.op (.waitDma2 tS0 src b0 h1 h2) k) Q) := by
  iintro ⟨#Hlev, Hf, ⟨%W, HO⟩⟩ Hk
  unfold fly0
  icases Hf with ⟨%f, Hf⟩
  iapply (Transfers.wp_waitLocalO EC 𝒱₀ (c : Thread nD τ) none (srcw := src) (dstw := b0) () (N := NT) rfl (O := O) (W := W)) $$ [Hf HO]
  · isplitl [Hf]; · iexact Hf
    isplitl [HO]; · iexact HO
    iapply (mayWait hO c (.dma tS0) (by decide)); iexact Hlev
  iintro ⟨⟨Hb, Hw⟩, Hs, HO⟩
  iapply Hk
  isplitl [Hb]; · iexists f; iexact Hb
  isplitl [Hw]; · iexact Hw
  isplitl [Hs]; · iexact Hs
  iexists _; iexact HO
theorem wp_await1 {α : Type} (q : PosShare TreeShare) (c : Dev nD) (t : Fin 4) {O : Due} (hO : Above 1 O) {s' : Shape} {src : Memref sig .tc .hbm s' .f32}
    {h1 : src.view.WordExact} {h2 : b1.view.WordExact} (k : PUnit → Prog (TpuEff nD τ sig (Elt F) Λ₀ .tc) α) (Q : α → sProp 𝕄) :
    iprop(levAts L lv ∗ fly1 I q c t ∗ ∃ W, owes (c : Thread nD τ) O W)
      ⊢ iprop((iprop(has1 I c t ∗ wPt I q c ∗ semVal ((c : Thread nD τ), .dma tS1) 0 ∗ ∃ W, owes (c : Thread nD τ) O W) -∗ WP c (k ⟨⟩) Q)
        -∗ WP c (.op (.waitDma2 tS1 src b1 h1 h2) k) Q) := by
  iintro ⟨#Hlev, Hf, ⟨%W, HO⟩⟩ Hk
  unfold fly1
  icases Hf with ⟨%f, Hf⟩
  iapply (Transfers.wp_waitLocalO EC 𝒱₀ (c : Thread nD τ) none (srcw := src) (dstw := b1) () (N := NT) rfl (O := O) (W := W)) $$ [Hf HO]
  · isplitl [Hf]; · iexact Hf
    isplitl [HO]; · iexact HO
    iapply (mayWait hO c (.dma tS1) (by decide)); iexact Hlev
  iintro ⟨⟨Hb, Hw⟩, Hs, HO⟩
  iapply Hk
  isplitl [Hb]; · iexists f; iexact Hb
  isplitl [Hw]; · iexact Hw
  isplitl [Hs]; · iexact Hs
  iexists _; iexact HO

/-- Loading the tile a slot holds. -/
theorem wp_tile0 {α : Type} (c : Dev nD) (t : Fin 4) {h hl} (k : Vec F S1x2048x1024 .f32 → Prog (TpuEff nD τ sig (Elt F) Λ₀ .tc) α) (Q : α → sProp 𝕄) :
    has0 I c t ⊢ iprop((has0 I c t -∗ WP c (k (wT I c t)) Q)
        -∗ WP c (.op (.load bM (Rect.unit (s := S2x2048x1024) ![0, 0, 0] S1x2048x1024.size h).toLoadRect hl) k) Q) := by
  iintro ⟨%f, Hb⟩ Hk
  iapply (wp_load 𝒱₀ (c : Thread nD τ) none Set.univ (m := bM) (S := bSet0) (whole_sub cc0_scratch0 _ (by rw [bSet0_eq]))) $$ Hb
  iintro Hb
  rw [read_b0 I c t f]
  iapply Hk
  iexists f; iexact Hb
theorem wp_tile1 {α : Type} (c : Dev nD) (t : Fin 4) {h hl} (k : Vec F S1x2048x1024 .f32 → Prog (TpuEff nD τ sig (Elt F) Λ₀ .tc) α) (Q : α → sProp 𝕄) :
    has1 I c t ⊢ iprop((has1 I c t -∗ WP c (k (wT I c t)) Q)
        -∗ WP c (.op (.load bM (Rect.unit (s := S2x2048x1024) ![1, 0, 0] S1x2048x1024.size h).toLoadRect hl) k) Q) := by
  iintro ⟨%f, Hb⟩ Hk
  iapply (wp_load 𝒱₀ (c : Thread nD τ) none Set.univ (m := bM) (S := bSet1) (whole_sub cc0_scratch0 _ (by rw [bSet1_eq]))) $$ Hb
  iintro Hb
  rw [read_b1 I c t f]
  iapply Hk
  iexists f; iexact Hb

/-- Loading the tokens, and the labels. -/
abbrev xPt (c : Dev nD) : sProp 𝕄 := pt c cc0_stg0_0 (I c).x
abbrev labPt (c : Dev nD) : sProp 𝕄 := pt c cc0_stg1_0 (I c).lab
theorem wp_x {α : Type} (c : Dev nD) {h hl} (k : Vec F S1024x2048 .f32 → Prog (TpuEff nD τ sig (Elt F) Λ₀ .tc) α) (Q : α → sProp 𝕄) :
    xPt I c ⊢ iprop((xPt I c -∗ WP c (k (I c).x) Q)
        -∗ WP c (.op (.load xM (Rect.unit (s := S1024x2048) ![0, 0] S1024x2048.size h).toLoadRect hl) k) Q) := by
  iintro Hx Hk
  iapply (wp_load 𝒱₀ (c : Thread nD τ) none Set.univ (m := xM) (Finset.subset_univ _)) $$ Hx
  iintro Hx
  rw [read_x (I c).x]
  iapply Hk
  iexact Hx
theorem wp_lab {α : Type} (c : Dev nD) {h hl} (k : Vec F S1024x1 .i32 → Prog (TpuEff nD τ sig (Elt F) Λ₀ .tc) α) (Q : α → sProp 𝕄) :
    labPt I c ⊢ iprop((labPt I c -∗ WP c (k (I c).lab) Q)
        -∗ WP c (.op (.load labM (Rect.unit (s := S1024x1) ![0, 0] S1024x1.size h).toLoadRect hl) k) Q) := by
  iintro Hx Hk
  iapply (wp_load 𝒱₀ (c : Thread nD τ) none Set.univ (m := labM) (Finset.subset_univ _)) $$ Hx
  iintro Hx
  rw [read_lab (I c).lab]
  iapply Hk
  iexact Hx

end Cert.KernelIdeal.Run

end
-- ==== Proof.Front.lean ====
/-
  The first half of the body, part by part: what each part is handed, what it leaves, and the words it passes on.
-/
module

public import proofs.«01_k».proof.Proof.Tiles

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What device `c` owes, whatever it has waited on. -/
abbrev ow (c : Dev nD) (O : Due) : sProp 𝕄 := iprop(∃ W, owes (c : Thread nD τ) O W)

variable (I : Dev nD → Inp F)

/-! ## The parts at the kernel's own buffers -/

abbrev P1 := k0_part1 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P2 := k0_part2 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P3 := k0_part3 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P4 := k0_part4 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P5 := k0_part5 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P6 := k0_part6 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P7 := k0_part7 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P8 := k0_part8 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6
abbrev P9 := k0_part9 (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6

/-! ## Signals -/

theorem payload_bar (r : Fin 3) (c : Dev nD) : (rd I).payload (cell .bar (prt r c)) 0 r
    = iprop((∃ f, slot r c f) ∗ reached EX (cell (.rcv r) c) 0 ∗ reached EX (cell .ext c) 0) := by
  rw [payload_cell I .bar (prt r c) r]
  show barPay r (prt r c) = _
  unfold barPay
  rw [prt_prt]

/-- Signalling the barrier of the partner across axis `r`: hands over the device's own receive slot `r`. -/
theorem wp_bar {α : Type} (K : GSem nD τ sig → ℕ) (r : Fin 3) (c d : Dev nD) (hd : d = prt r c) (O O' : Due) (hO : O' = O + owB r c)
    (k : PUnit → Prog (TpuEff nD τ sig (Elt F) Λ₀ .tc) α) (Q : α → sProp 𝕄) :
    iprop(invs I K ∗ reached EX (cell .bar (prt r c)) 0 ∗ reached EX (cell (.rcv r) c) 0 ∗ reached EX (cell .ext c) 0
        ∗ dutyTok EX (cell .bar (prt r c)) 0 r ∗ (∃ f, slot (F := F) r c f) ∗ ow c O')
      ⊢ iprop((ow c O -∗ WP c (k ⟨⟩) Q) -∗ WP c (.op (.semSignal (d : Thread nD τ) barS 1) k) Q) := by
  subst hd
  iintro ⟨#HI, #Hrb, #Hrr, #Hre, Ht, Hs, ⟨%W, HO⟩⟩ Hk
  iapply (Rounds.wp_signal 𝒱₀ EX (rd I) (c : Thread nD τ) none (dst := (prt r c : Thread nD τ)) (sem := barS) (r := 0) (d := r) (κ := K (cell .bar (prt r c)))
      (mem_bar I r (prt r c)) (amount_cell I .bar (prt r c) r) () O (O₀ := O') hO) $$ [HO Ht Hs]
  · isplitr; · iapply (invs_at I K .bar (prt r c)); iexact HI
    isplitl [HO]; · iexact HO
    isplitl [Ht]; · iexact Ht
    isplitl [Hs]
    · rw [payload_bar I r c]
      isplitl [Hs]; · iexact Hs
      isplitr; · iexact Hrr
      iexact Hre
    · iexact Hrb
  iintro HO
  iapply Hk
  iexists W
  iexact HO

/-- Part 1: the devices' coordinates, and the first two barrier signals. -/
theorem part1_run {α : Type} (K : GSem nD τ sig → ℕ) (c : Dev nD) (k : _ → Prog (TpuEff nD τ sig (Elt F) Λ₀ .tc) α) (Q : α → sProp 𝕄) :
    iprop(invs I K ∗ reached EX (cell .bar (prt 0 c)) 0 ∗ reached EX (cell .bar (prt 1 c)) 0
        ∗ reached EX (cell (.rcv 0) c) 0 ∗ reached EX (cell (.rcv 1) c) 0 ∗ reached EX (cell .ext c) 0
        ∗ dutyTok EX (cell .bar (prt 0 c)) 0 0 ∗ dutyTok EX (cell .bar (prt 1 c)) 0 1
        ∗ (∃ f, slot (F := F) 0 c f) ∗ (∃ f, slot (F := F) 1 c f) ∗ ow c (o0 c))
      ⊢ iprop((∀ v2 : BitVec 32, ∀ v5 : BitVec 32, ∀ v8 : BitVec 32, ∀ v11 : BitVec 32, ∀ v14 : BitVec 32, ∀ v15 : BitVec 32, ∀ v16 : BitVec 32, ∀ v31 : BitVec 32, ow c (o2 c) -∗
            WP c (k ⟨c, v2, v5, v8, v11, w13 c, v14, v15, v16, SemArray.scalar (sig.barrier 0 rfl), v31⟩) Q)
        -∗ WP c (P1 >>= k) Q) := by
  unfold P1
  rw [k0_part1_eq_skeleton]
  unfold k0_part1_skel w13
  simp only [semSignalWord, Prog.lift, Prog.bind_op, Prog.bind_ret, Prog.pure_eq_ret, Prog.bind_assoc, wp_deviceId]
  iintro ⟨#HI, #Hb0, #Hb1, #Hr0, #Hr1, #Hre, Ht0, Ht1, Hs0, Hs1, HO⟩ Hk
  iapply (wp_bar I K 0 c _ (dev1_eq c) (o1 c) (o0 c) rfl) $$ [Ht0 Hs0 HO]
  · isplitr; · iexact HI
    isplitr; · iexact Hb0
    isplitr; · iexact Hr0
    isplitr; · iexact Hre
    isplitl [Ht0]; · iexact Ht0
    isplitl [Hs0]; · iexact Hs0
    iexact HO
  iintro HO
  iapply (wp_bar I K 1 c _ (dev2_eq c) (o2 c) (o1 c) rfl) $$ [Ht1 Hs1 HO]
  · isplitr; · iexact HI
    isplitr; · iexact Hb1
    isplitr; · iexact Hr1
    isplitr; · iexact Hre
    isplitl [Ht1]; · iexact Ht1
    isplitl [Hs1]; · iexact Hs1
    iexact HO
  iintro HO
  iapply Hk
  iexact HO

/-- Waiting for the three partners at the device's own barrier: their receive slots come with the units. -/
theorem wp_barWait {α : Type} (K : GSem nD τ sig → ℕ) (c : Dev nD) (k : PUnit → Prog (TpuEff nD τ sig (Elt F) Λ₀ .tc) α) (Q : α → sProp 𝕄) :
    iprop(invs I K ∗ levAts L lv ∗ cred (tallyAt (cell .bar c) () 3) ∗ atPos EX (cell .bar c) 0 ∅ 0 ∗ ow c (o3 c))
      ⊢ iprop((iprop(ow c (o3 c) ∗ atPos EX (cell .bar c) (0 + 1) ∅ 0 ∗ barPay (F := F) 0 c ∗ barPay (F := F) 1 c ∗ barPay (F := F) 2 c) -∗ WP c (k ⟨⟩) Q)
        -∗ WP c (.op (.semWait barS 3) k) Q) := by
  iintro ⟨#HI, #Hlev, Hc, Hat, ⟨%W, HO⟩⟩ Hk
  iapply (Rounds.wp_wait_rest_token 𝒱₀ EX (rd I) (c : Thread nD τ) none (κ := K (cell .bar c))
      (wpE_semWait_eq 𝒱₀ (c : Thread nD τ) none Set.univ) (Set.mem_univ _) () (O := o3 c) (W := W) (R := 0) (m := 0) (T := ∅)
      ((Nat.zero_add 3).trans (expect_bar I c).symm)) $$ [Hc HO Hat]
  · isplitr; · iapply (invs_at I K .bar c); iexact HI
    isplitl [Hc]; · iexact Hc
    isplitl [HO]; · iexact HO
    isplitr; · iapply (mayWait (above3 c) c (.reg barS) (by decide)); iexact Hlev
    iexact Hat
  iintro ⟨HO, Hat, -, Hpay⟩
  ihave Hp := (Entails.of_eq (rest_bar I c)) $$ Hpay
  icases Hp with ⟨H0, H1, H2⟩
  iapply Hk
  isplitl [HO]; · iexists _; iexact HO
  isplitl [Hat]; · iexact Hat
  isplitl [H0]; · iexact H0
  isplitl [H1]; · iexact H1
  iexact H2

/-- Part 2: the last barrier signal and the barrier wait; tile 0 fetched, tile 1 on its way. -/
theorem part2_run {α : Type} (K : GSem nD τ sig → ℕ) (c : Dev nD) (v5 v11 v16 v31 : BitVec 32) (k : _ → Prog (TpuEff nD τ sig (Elt F) Λ₀ .tc) α) (Q : α → sProp 𝕄) :
    iprop(invs I K ∗ levAts L lv ∗ reached EX (cell .bar (prt 2 c)) 0 ∗ reached EX (cell (.rcv 2) c) 0 ∗ reached EX (cell .ext c) 0
        ∗ dutyTok EX (cell .bar (prt 2 c)) 0 2 ∗ (∃ f, slot (F := F) 2 c f) ∗ ow c (o2 c)
        ∗ cred (tallyAt (cell .bar c) () 3) ∗ atPos EX (cell .bar c) 0 ∅ 0
        ∗ wPt I fullShare.left c ∗ wPt I fullShare.right c ∗ (∃ f, bPt0 (F := F) c f) ∗ (∃ f, bPt1 (F := F) c f)
        ∗ semVal ((c : Thread nD τ), .dma tS0) 0 ∗ semVal ((c : Thread nD τ), .dma tS1) 0 ∗ xPt I c)
      ⊢ iprop((iprop(ow c (o3 c) ∗ atPos EX (cell .bar c) (0 + 1) ∅ 0 ∗ barPay (F := F) 0 c ∗ barPay (F := F) 1 c ∗ barPay (F := F) 2 c
            ∗ has0 I c 0 ∗ wPt I fullShare.left c ∗ semVal ((c : Thread nD τ), .dma tS0) 0 ∗ fly1 I fullShare.right c 1 ∗ xPt I c) -∗
            WP c (k ⟨k0_pay2, k0_pay3, io, k0_pay4 (I c).x⟩) Q)
        -∗ WP c (P2 c v5 v11 v16 (SemArray.scalar (sig.barrier 0 rfl)) v31 >>= k) Q) := by
  unfold P2
  rw [k0_part2_eq_skeleton]
  unfold k0_part2_skel io
  simp only [semSignalWord, semWaitWord, Prog.lift, Prog.bind_op, Prog.bind_ret, Prog.pure_eq_ret, Prog.bind_assoc]
  iintro ⟨#HI, #Hlev, #Hb2, #Hr2, #Hre, Ht2, Hs2, HO, Hc, Hat, Hwl, Hwr, ⟨%f0, Hb0⟩, ⟨%f1, Hb1⟩, Hv0, Hv1, Hx⟩ Hk
  iapply (wp_bar I K 2 c _ (dev3_eq c) (o3 c) (o2 c) rfl) $$ [Ht2 Hs2 HO]
  · isplitr; · iexact HI
    isplitr; · iexact Hb2
    isplitr; · iexact Hr2
    isplitr; · iexact Hre
    isplitl [Ht2]; · iexact Ht2
    isplitl [Hs2]; · iexact Hs2
    iexact HO
  iintro HO
  iapply (wp_barWait I K c) $$ [Hc Hat HO]
  · isplitr; · iexact HI
    isplitr; · iexact Hlev
    isplitl [Hc]; · iexact Hc
    isplitl [Hat]; · iexact Hat
    iexact HO
  iintro ⟨HO, Hat, Hp0, Hp1, Hp2⟩
  iapply (wp_fetch0 I fullShare.left c 0 f0) $$ [Hwl Hb0 Hv0]
  · isplitl [Hwl]; · iexact Hwl
    isplitl [Hb0]; · iexact Hb0
    iexact Hv0
  iintro Hf0
  iapply (wp_fetch1 I fullShare.right c 1 f1) $$ [Hwr Hb1 Hv1]
  · isplitl [Hwr]; · iexact Hwr
    isplitl [Hb1]; · iexact Hb1
    iexact Hv1
  iintro Hf1
  iapply (wp_await0 I fullShare.left c 0 (above3 c)) $$ [Hf0 HO]
  · isplitr; · iexact Hlev
    isplitl [Hf0]; · iexact Hf0
    iexact HO
  iintro ⟨Hb0, Hwl, Hv0, HO⟩
  iapply (wp_x I c) $$ Hx
  iintro Hx
  iapply Hk
  iframe HO Hat Hp0 Hp1 Hp2 Hb0 Hwl Hv0 Hf1 Hx

/-- Part 3: tile 0 summed, tile 2 on its way, tile 1 fetched. -/
theorem part3_run {α : Type} (c : Dev nD) (v11 v13 : BitVec 32) (v42 v43 : Col F) (v44 : IVec S1024x1024 32) (v58 : FVec F S1024x2048 .f32)
    (k : _ → Prog (TpuEff nD τ sig (Elt F) Λ₀ .tc) α) (Q : α → sProp 𝕄) :
    iprop(levAts L lv ∗ ow c (o3 c) ∗ has0 I c 0 ∗ wPt I fullShare.left c ∗ semVal ((c : Thread nD τ), .dma tS0) 0 ∗ fly1 I fullShare.right c 1 ∗ xPt I c ∗ labPt I c)
      ⊢ iprop((iprop(ow c (o3 c) ∗ fly0 I fullShare.left c 2 ∗ has1 I c 1 ∗ wPt I fullShare.right c ∗ semVal ((c : Thread nD τ), .dma tS1) 0 ∗ xPt I c ∗ labPt I c) -∗
            WP c (k ⟨k0_pay6 v42 v58 (wT I c 0), k0_pay7 v13 v43 v44 v58 (wT I c 0) (I c).lab, k0_pay8 (I c).x⟩) Q)
        -∗ WP c (P3 c v11 v13 v42 v43 v44 v58 >>= k) Q) := by
  unfold P3
  rw [k0_part3_eq_skeleton]
  unfold k0_part3_skel
  simp only [Prog.lift, Prog.bind_op, Prog.bind_ret, Prog.pure_eq_ret, Prog.bind_assoc]
  iintro ⟨#Hlev, HO, Hb0, Hwl, Hv0, Hf1, Hx, Hl⟩ Hk
  iapply (wp_tile0 I c 0) $$ Hb0
  iintro ⟨%f0, Hb0⟩
  iapply (wp_lab I c) $$ Hl
  iintro Hl
  iapply (wp_fetch0 I fullShare.left c 2 _) $$ [Hwl Hb0 Hv0]
  · isplitl [Hwl]; · iexact Hwl
    isplitl [Hb0]; · iexact Hb0
    iexact Hv0
  iintro Hf0
  iapply (wp_await1 I fullShare.right c 1 (above3 c)) $$ [Hf1 HO]
  · isplitr; · iexact Hlev
    isplitl [Hf1]; · iexact Hf1
    iexact HO
  iintro ⟨Hb1, Hwr, Hv1, HO⟩
  iapply (wp_x I c) $$ Hx
  iintro Hx
  iapply Hk
  iframe HO Hf0 Hb1 Hwr Hv1 Hx Hl

/-- Part 4: tile 1 summed, tile 3 on its way, tile 2 fetched and loaded. -/
theorem part4_run {α : Type} (c : Dev nD) (v11 v13 : BitVec 32) (v44 : IVec S1024x1024 32) (v65 v77 : Col F) (v91 : FVec F S1024x2048 .f32)
    (k : _ → Prog (TpuEff nD τ sig (Elt F) Λ₀ .tc) α) (Q : α → sProp 𝕄) :
    iprop(levAts L lv ∗ ow c (o3 c) ∗ fly0 I fullShare.left c 2 ∗ has1 I c 1 ∗ wPt I fullShare.right c ∗ semVal ((c : Thread nD τ), .dma tS1) 0 ∗ xPt I c ∗ labPt I c)
      ⊢ iprop((iprop(ow c (o3 c) ∗ has0 I c 2 ∗ wPt I fullShare.left c ∗ semVal ((c : Thread nD τ), .dma tS0) 0 ∗ fly1 I fullShare.right c 3 ∗ xPt I c ∗ labPt I c) -∗
            WP c (k ⟨k0_pay10 v65 v91 (wT I c 1), k0_pay11 v13 v44 v77 v91 (wT I c 1) (I c).lab, k0_pay12 (I c).x, wT I c 2⟩) Q)
        -∗ WP c (P4 c v11 v13 v44 v65 v77 v91 >>= k) Q) := by
  unfold P4
  rw [k0_part4_eq_skeleton]
  unfold k0_part4_skel
  simp only [Prog.lift, Prog.bind_op, Prog.bind_ret, Prog.pure_eq_ret, Prog.bind_assoc]
  iintro ⟨#Hlev, HO, Hf0, Hb1, Hwr, Hv1, Hx, Hl⟩ Hk
  iapply (wp_tile1 I c 1) $$ Hb1
  iintro ⟨%f1, Hb1⟩
  iapply (wp_lab I c) $$ Hl
  iintro Hl
  iapply (wp_fetch1 I fullShare.right c 3 _) $$ [Hwr Hb1 Hv1]
  · isplitl [Hwr]; · iexact Hwr
    isplitl [Hb1]; · iexact Hb1
    iexact Hv1
  iintro Hf1
  iapply (wp_await0 I fullShare.left c 2 (above3 c)) $$ [Hf0 HO]
  · isplitr; · iexact Hlev
    isplitl [Hf0]; · iexact Hf0
    iexact HO
  iintro ⟨Hb0, Hwl, Hv0, HO⟩
  iapply (wp_x I c) $$ Hx
  iintro Hx
  iapply (wp_tile0 I c 2) $$ Hb0
  iintro Hb0
  iapply Hk
  iframe HO Hb0 Hwl Hv0 Hf1 Hx Hl

/-- Part 5: tile 3 fetched; tiles 2 and 3 summed. -/
theorem part5_run {α : Type} (c : Dev nD) (v11 v13 : BitVec 32) (v44 : IVec S1024x1024 32) (v98 v110 : Col F) (v124 : FVec F S1024x2048 .f32) (v125 : Vec F S1x2048x1024 .f32)
    (k : _ → Prog (TpuEff nD τ sig (Elt F) Λ₀ .tc) α) (Q : α → sProp 𝕄) :
    iprop(levAts L lv ∗ ow c (o3 c) ∗ fly1 I fullShare.right c 3 ∗ xPt I c ∗ labPt I c)
      ⊢ iprop((iprop(ow c (o3 c) ∗ has1 I c 3 ∗ wPt I fullShare.right c ∗ semVal ((c : Thread nD τ), .dma tS1) 0 ∗ xPt I c ∗ labPt I c) -∗
            WP c (k ⟨k0_pay14 v13 v44 v110 v124 v125 (I c).lab, k0_pay15 (I c).x (wT I c 3), k0_pay16 v98 v124 v125 (I c).x (wT I c 3), k0_pay17 (F := F) (I c).lab, Scalar.addi v13 3072#32⟩) Q)
        -∗ WP c (P5 c v11 v13 v44 v98 v110 v124 v125 >>= k) Q) := by
  unfold P5
  rw [k0_part5_eq_skeleton]
  unfold k0_part5_skel
  simp only [Prog.lift, Prog.bind_op, Prog.bind_ret, Prog.pure_eq_ret, Prog.bind_assoc]
  iintro ⟨#Hlev, HO, Hf1, Hx, Hl⟩ Hk
  iapply (wp_lab I c) $$ Hl
  iintro Hl
  iapply (wp_await1 I fullShare.right c 3 (above3 c)) $$ [Hf1 HO]
  · isplitr; · iexact Hlev
    isplitl [Hf1]; · iexact Hf1
    iexact HO
  iintro ⟨Hb1, Hwr, Hv1, HO⟩
  iapply (wp_x I c) $$ Hx
  iintro Hx
  iapply (wp_tile1 I c 3) $$ Hb1
  iintro Hb1
  iapply (wp_lab I c) $$ Hl
  iintro Hl
  iapply Hk
  iframe HO Hb1 Hwr Hv1 Hx Hl

end Cert.KernelIdeal.Run

end
-- ==== Proof.Back.lean ====
/-
  The second half of the body: the three exchange steps, the stored result, and the exit handshake.
-/
module

public import proofs.«01_k».proof.Proof.Front

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → Inp F)

/-! ## One packet -/

/-- A receive slot's window, by its offsets. -/
abbrev rWin (o : Fin 3 → Nat) (h : ∀ a, o a + S1x1024x2.size a ≤ S3x1024x2.size a) : Memref sig .tc .vmem S1024x2 .f32 :=
  (rM.slice (Rect.unit (s := S3x1024x2) o S1x1024x2.size h) (fun _ => rfl)).squeeze S1024x2 Facts₀.squeezes_S1x1024x2_S1024x2

theorem s_set : sM.view.set = Finset.univ := View.set_whole _

theorem win_credit (o : Fin 3 → Nat) (h) : (rWin o h).view.dmaCredit = N := rfl

/-- Sending step `r`'s packet to the partner across axis `r`. -/
theorem wp_packet {α : Type} (K : GSem nD τ sig → ℕ) (r : Fin 3) (o : Fin 3 → Nat) (h) (ho1 : o 1 = 0) (ho2 : o 2 = 0) (hset : (rWin o h).view.set = rSet r)
    (sS rS : DmaSem sig) (hs : sem (.snd r) = .dma sS) (hr : sem (.rcv r) = .dma rS)
    (c d : Dev nD) (hd : d = prt r c) (O O' : Due) (hO : O' = O + owR r c) {h1 h2 h3}
    (k : PUnit → Prog (TpuEff nD τ sig (Elt F) Λ₀ .tc) α) (Q : α → sProp 𝕄) :
    iprop(invs I K ∗ reached EX (cell (.snd r) c) 0 ∗ reached EX (cell (.rcv r) (prt r c)) 0
        ∗ dutyTok EX (cell (.snd r) c) 0 0 ∗ dutyTok EX (cell (.rcv r) (prt r c)) 0 0
        ∗ pt c cc0_scratch1 (pkt I r c) ∗ (∃ f, slot (F := F) r (prt r c) f) ∗ ow c O')
      ⊢ iprop((iprop(ow c O ∗ cred (tallyAt (cell (.snd r) c) () N)) -∗ WP c (k ⟨⟩) Q)
        -∗ WP c (.op (.enqueueDma sM (.remote (Dev.tc d) (rWin o h) (.dma sS)) (.dma rS) h1 h2 h3) k) Q) := by
  subst hd
  have m1 : (0 : Fin 3) ∈ (rd I).duties ((c : Thread nD τ), .dma sS) 0 := hs ▸ mem_snd I r c
  have m2 : (0 : Fin 3) ∈ (rd I).duties ((prt r c : Thread nD τ), .dma rS) 0 := hr ▸ mem_rcv I r (prt r c)
  have a1 : (rd I).amount ((c : Thread nD τ), .dma sS) 0 0 = N := hs ▸ amount_cell I (.snd r) c 0
  have a2 : (rd I).amount ((prt r c : Thread nD τ), .dma rS) 0 0 = N := hr ▸ amount_cell I (.rcv r) (prt r c) 0
  have p1 : (rd I).payload ((c : Thread nD τ), .dma sS) 0 0 = pt c cc0_scratch1 (pkt I r c) := hs ▸ payload_cell I (.snd r) c 0
  have p2 : (rd I).payload ((prt r c : Thread nD τ), .dma rS) 0 0 = slot r (prt r c) (rcv (pkt I r c)) := by
    rw [← hr]
    refine (payload_cell I (.rcv r) (prt r c) 0).trans ?_
    show rcvPay I r (prt r c) = _
    unfold rcvPay
    rw [prt_prt]
  rw [show cell (.snd r) c = ((c : Thread nD τ), .dma sS) from congrArg (Prod.mk (c : Thread nD τ)) hs,
    show cell (.rcv r) (prt r c) = ((prt r c : Thread nD τ), .dma rS) from congrArg (Prod.mk (prt r c : Thread nD τ)) hr]
  unfold owR at hO
  rw [show cell (.rcv r) (prt r c) = ((prt r c : Thread nD τ), .dma rS) from congrArg (Prod.mk (prt r c : Thread nD τ)) hr] at hO
  iintro ⟨#HI, #Hrs, #Hrr, Hts, Htr, Hsrc, ⟨%f, Hdst⟩, ⟨%W, HO⟩⟩ Hk
  ihave #HIs := (invs_at I K (.snd r) c) $$ HI
  ihave #HIr := (invs_at I K (.rcv r) (prt r c)) $$ HI
  rw [show cell (.snd r) c = ((c : Thread nD τ), .dma sS) from congrArg (Prod.mk (c : Thread nD τ)) hs,
    show cell (.rcv r) (prt r c) = ((prt r c : Thread nD τ), .dma rS) from congrArg (Prod.mk (prt r c : Thread nD τ)) hr]
  iapply (Rounds.wp_send_pointsTo 𝒱₀ EX (rd I) (c : Thread nD τ) none (c' := (prt r c : Thread nD τ)) (src := sM) (dst := rWin o h)
      (sS := .dma sS) (sem := .dma rS) (q := fullShare) (fs := pkt I r c) (κ₁ := K ((c : Thread nD τ), .dma sS)) (κ₂ := K ((prt r c : Thread nD τ), .dma rS))
      (r₁ := 0) (r₂ := 0) (d₁ := 0) (d₂ := 0) (fd := f) m1 m2 () () N rfl a1 a2 O hO (W := W)
      (by rw [p1, s_set])
      (by
        rw [p2, hset]
        refine Entails.of_eq (pointsTo_congr ?_)
        rw [← hset]
        exact land_rcv o ho1 ho2 h _ (pkt I r c) f)) $$ [Hsrc Hdst HO Hts Htr]
  · isplitr; · iexact HIs
    isplitr; · iexact HIr
    isplitl [Hsrc]; · rw [s_set]; iexact Hsrc
    isplitl [Hdst]; · rw [hset]; iexact Hdst
    isplitl [HO]; · iexact HO
    isplitl [Hts]; · iexact Hts
    isplitr; · iexact Hrs
    isplitl [Htr]; · iexact Htr
    iexact Hrr
  iintro ⟨Hc, HO⟩
  iapply Hk
  isplitl [HO]; · iexists W; iexact HO
  iexact Hc

/-- Waiting for the packet's departure: the send buffer comes back. -/
theorem wp_gone {α : Type} (K : GSem nD τ sig → ℕ) (r : Fin 3) (sS : DmaSem sig) (hs : sem (.snd r) = .dma sS) (c : Dev nD) {O : Due} (hO : Above 0 O)
    {src : Memref sig .tc .vmem S1024x2 .f32} {h1 : src.view.WordExact} {h2 : sM.view.WordExact}
    (k : PUnit → Prog (TpuEff nD τ sig (Elt F) Λ₀ .tc) α) (Q : α → sProp 𝕄) :
    iprop(invs I K ∗ levAts L lv ∗ cred (tallyAt (cell (.snd r) c) () N) ∗ atPos EX (cell (.snd r) c) 0 ∅ 0 ∗ ow c O)
      ⊢ iprop((iprop(ow c O ∗ atPos EX (cell (.snd r) c) (0 + 1) ∅ 0 ∗ pt c cc0_scratch1 (pkt I r c)) -∗ WP c (k ⟨⟩) Q)
        -∗ WP c (.op (.waitDma2 sS src sM h1 h2) k) Q) := by
  have hc : cell (.snd r) c = ((c : Thread nD τ), .dma sS) := congrArg (Prod.mk (c : Thread nD τ)) hs
  have he := expect_snd I r c
  have hp := rest_snd I r c
  have hk : lvK (kind (.dma sS)) ≤ 0 := by rw [← hs, kind_sem]; exact Nat.le_refl 0
  rw [hc] at he hp ⊢
  iintro ⟨#HI, #Hlev, Hc, Hat, ⟨%W, HO⟩⟩ Hk
  ihave #HIs := (invs_at I K (.snd r) c) $$ HI
  rw [hc]
  iapply (Rounds.wp_wait_rest_token 𝒱₀ EX (rd I) (c : Thread nD τ) none (κ := K ((c : Thread nD τ), .dma sS))
      (wpE_waitDma2_eq 𝒱₀ (c : Thread nD τ) none Set.univ) (Set.mem_univ _) () (O := O) (W := W) (R := 0) (m := 0) (T := ∅)
      ((Nat.zero_add _).trans he.symm)) $$ [Hc HO Hat]
  · isplitr; · iexact HIs
    isplitl [Hc]; · iexact Hc
    isplitl [HO]; · iexact HO
    isplitr; · iapply (mayWait hO c (.dma sS) hk); iexact Hlev
    iexact Hat
  iintro ⟨HO, Hat, -, Hpay⟩
  ihave Hp := (Entails.of_eq hp) $$ Hpay
  iapply Hk
  isplitl [HO]; · iexists _; iexact HO
  isplitl [Hat]; · iexact Hat
  unfold sndPay
  iexact Hp

/-- Waiting for the partner's packet: the device's own slot comes back, holding it. -/
theorem wp_come {α : Type} (K : GSem nD τ sig → ℕ) (r : Fin 3) (rS : DmaSem sig) (hr : sem (.rcv r) = .dma rS) (c : Dev nD) {O : Due} (hO : Above (2 + r.val) O)
    (o : Fin 3 → Nat) (h) {h1 : sM.view.WordExact} {h2 : (rWin o h).view.WordExact}
    (k : PUnit → Prog (TpuEff nD τ sig (Elt F) Λ₀ .tc) α) (Q : α → sProp 𝕄) :
    iprop(invs I K ∗ levAts L lv ∗ cred (tallyAt (cell (.rcv r) c) () N) ∗ atPos EX (cell (.rcv r) c) 0 ∅ 0 ∗ ow c O)
      ⊢ iprop((iprop(ow c O ∗ atPos EX (cell (.rcv r) c) (0 + 1) ∅ 0 ∗ slot r c (rcv (pkt I r (prt r c)))) -∗ WP c (k ⟨⟩) Q)
        -∗ WP c (.op (.waitDma2 rS sM (rWin o h) h1 h2) k) Q) := by
  have hc : cell (.rcv r) c = ((c : Thread nD τ), .dma rS) := congrArg (Prod.mk (c : Thread nD τ)) hr
  have he := expect_rcv I r c
  have hp := rest_rcv I r c
  have hk : lvK (kind (.dma rS)) ≤ 2 + r.val := by rw [← hr, kind_sem]; exact Nat.le_refl _
  rw [hc] at he hp ⊢
  iintro ⟨#HI, #Hlev, Hc, Hat, ⟨%W, HO⟩⟩ Hk
  ihave #HIs := (invs_at I K (.rcv r) c) $$ HI
  rw [hc]
  iapply (Rounds.wp_wait_rest_token 𝒱₀ EX (rd I) (c : Thread nD τ) none (κ := K ((c : Thread nD τ), .dma rS))
      (wpE_waitDma2_eq 𝒱₀ (c : Thread nD τ) none Set.univ) (Set.mem_univ _) () (O := O) (W := W) (R := 0) (m := 0) (T := ∅)
      (by rw [win_credit, he, Nat.zero_add])) $$ [Hc HO Hat]
  · isplitr; · iexact HIs
    isplitl [Hc]; · rw [win_credit]; iexact Hc
    isplitl [HO]; · iexact HO
    isplitr; · iapply (mayWait hO c (.dma rS) hk); iexact Hlev
    iexact Hat
  iintro ⟨HO, Hat, -, Hpay⟩
  ihave Hp := (Entails.of_eq hp) $$ Hpay
  iapply Hk
  isplitl [HO]; · iexists _; iexact HO
  isplitl [Hat]; · iexact Hat
  unfold rcvPay
  iexact Hp

/-- Loading the two columns of a slot holding a packet. -/
theorem wp_col {α : Type} (r : Fin 3) (c : Dev nD) (s l : Col F) (o : Fin 3 → Nat) (ho1 : o 1 = 0) (ho2 : o 2 = 0) (h) (hl)
    (hsub : (Rect.unit (s := S3x1024x2) o S1x1024x1.size h).set ⊆ rSet r)
    (k : Vec F S1x1024x1 .f32 → Prog (TpuEff nD τ sig (Elt F) Λ₀ .tc) α) (Q : α → sProp 𝕄) :
    slot r c (rcv (pk s l)) ⊢ iprop((slot r c (rcv (pk s l)) -∗ WP c (k (row s)) Q)
        -∗ WP c (.op (.load rM (Rect.unit (s := S3x1024x2) o S1x1024x1.size h).toLoadRect hl) k) Q) := by
  iintro Hb Hk
  iapply (wp_load 𝒱₀ (c : Thread nD τ) none Set.univ (m := rM) (S := rSet r) (whole_sub cc0_scratch2 _ hsub)) $$ Hb
  iintro Hb
  rw [read_col0 o ho1 ho2 h s l]
  iapply Hk
  iexact Hb
theorem wp_col' {α : Type} (r : Fin 3) (c : Dev nD) (s l : Col F) (o : Fin 3 → Nat) (ho1 : o 1 = 0) (ho2 : o 2 = 1) (h) (hl)
    (hsub : (Rect.unit (s := S3x1024x2) o S1x1024x1.size h).set ⊆ rSet r)
    (k : Vec F S1x1024x1 .f32 → Prog (TpuEff nD τ sig (Elt F) Λ₀ .tc) α) (Q : α → sProp 𝕄) :
    slot r c (rcv (pk s l)) ⊢ iprop((slot r c (rcv (pk s l)) -∗ WP c (k (row l)) Q)
        -∗ WP c (.op (.load rM (Rect.unit (s := S3x1024x2) o S1x1024x1.size h).toLoadRect hl) k) Q) := by
  iintro Hb Hk
  iapply (wp_load 𝒱₀ (c : Thread nD τ) none Set.univ (m := rM) (S := rSet r) (whole_sub cc0_scratch2 _ hsub)) $$ Hb
  iintro Hb
  rw [read_col1 o ho1 ho2 h s l]
  iapply Hk
  iexact Hb

/-- Packing two columns into the send buffer: two loads whose values go unused, two stores. -/
theorem wp_pack {α : Type} (c : Dev nD) (s l : Col F) {h0 h1 a1 a2 a3 a4 a5 a6}
    (k : PUnit → Prog (TpuEff nD τ sig (Elt F) Λ₀ .tc) α) (Q : α → sProp 𝕄) :
    iprop(∃ f, pt c cc0_scratch1 f)
      ⊢ iprop((pt c cc0_scratch1 (pk s l) -∗ WP c (k ⟨⟩) Q)
        -∗ WP c (.op (.load sM (Rect.unit (s := S1024x2) ![0, 0] S1024x1.size h0).toLoadRect a1) fun _ =>
            .op (.store sM (Rect.unit (s := S1024x2) ![0, 0] S1024x1.size h0) s Finset.univ a2 a3) fun _ =>
            .op (.load sM (Rect.unit (s := S1024x2) ![0, 1] S1024x1.size h1).toLoadRect a4) fun _ =>
            .op (.store sM (Rect.unit (s := S1024x2) ![0, 1] S1024x1.size h1) l Finset.univ a5 a6) k) Q) := by
  iintro ⟨%f, Hs⟩ Hk
  iapply (wp_load 𝒱₀ (c : Thread nD τ) none Set.univ (m := sM) (Finset.subset_univ _)) $$ Hs
  iintro Hs
  iapply (wp_store 𝒱₀ (c : Thread nD τ) none Set.univ (m := sM) (r := Rect.unit (s := S1024x2) ![0, 0] S1024x1.size h0) (Mk := Finset.univ) (Finset.subset_univ _)) $$ Hs
  iintro Hs
  iapply (wp_load 𝒱₀ (c : Thread nD τ) none Set.univ (m := sM) (Finset.subset_univ _)) $$ Hs
  iintro Hs
  iapply (wp_store 𝒱₀ (c : Thread nD τ) none Set.univ (m := sM) (r := Rect.unit (s := S1024x2) ![0, 1] S1024x1.size h1) (Mk := Finset.univ) (Finset.subset_univ _)) $$ Hs
  iintro Hs
  rw [write_pk f s l h0 h1]
  iapply Hk
  iexact Hs

/-! ## The stored columns -/

theorem pay19_eq (v : Col F) : k0_pay19 v = v := shapeCast_self _ _
theorem pay20_eq (a : IVec S1024x1024 32) (b : Col F) (d : FVec F S1024x1024 .f32) (e : IVec S1024x1 32) (w : BitVec 32) :
    k0_pay20 a b d e w = k0_pay18 a b d e w := shapeCast_self _ _
theorem pay23_eq (v : Col F) (u : Vec F S1x1024x1 .f32) : k0_pay23 v u = k0_pay21 v u := shapeCast_self _ _
theorem pay24_eq (v : Col F) (u : Vec F S1x1024x1 .f32) : k0_pay24 v u = k0_pay21 v u := shapeCast_self _ _
theorem pay27_eq (v : Col F) (u : Vec F S1x1024x1 .f32) : k0_pay27 v u = k0_pay21 v u := shapeCast_self _ _
theorem pay28_eq (v : Col F) (u : Vec F S1x1024x1 .f32) : k0_pay28 v u = k0_pay21 v u := shapeCast_self _ _

/-- A column's window lies in its slot. -/
theorem col_sub (o o' : Fin 3 → Nat) (h : ∀ a, o a + S1x1024x2.size a ≤ S3x1024x2.size a) (h' : ∀ a, o' a + S1x1024x1.size a ≤ S3x1024x2.size a)
    (h0 : o' 0 = o 0) (h1 : o 1 = 0) (h2 : o 2 = 0) :
    (Rect.unit (s := S3x1024x2) o' S1x1024x1.size h').set ⊆ (rWin o h).view.set := by
  have hs : (rWin o h).view.set = (Rect.unit (s := S3x1024x2) o S1x1024x2.size h).set := by
    show ((View.whole cc0_scratch2).slice _ |>.reshape _ _).set = _
    rw [View.set_reshape, View.set_slice_whole]
  rw [hs]
  intro i hi
  rw [Rect.mem_set_unit] at hi ⊢
  intro a
  have h3 := hi 0
  rw [h0] at h3
  fin_cases a
  · exact h3
  · exact ⟨by show o 1 ≤ _; rw [h1]; exact Nat.zero_le _, by show _ < o 1 + 1024; rw [h1]; exact lt_of_lt_of_eq (i 1).isLt (Nat.zero_add _).symm⟩
  · exact ⟨by show o 2 ≤ _; rw [h2]; exact Nat.zero_le _, by show _ < o 2 + 2; rw [h2]; exact lt_of_lt_of_eq (i 2).isLt (Nat.zero_add _).symm⟩

/-! ## The parts -/

/-- Part 6: the first packet packed, sent, and gone. -/
theorem part6_run {α : Type} (K : GSem nD τ sig → ℕ) (c : Dev nD) (v5 v8 v14 : BitVec 32)
    (k : _ → Prog (TpuEff nD τ sig (Elt F) Λ₀ .tc) α) (Q : α → sProp 𝕄) :
    iprop(invs I K ∗ levAts L lv ∗ reached EX (cell (.snd 0) c) 0 ∗ reached EX (cell (.rcv 0) (prt 0 c)) 0
        ∗ dutyTok EX (cell (.snd 0) c) 0 0 ∗ dutyTok EX (cell (.rcv 0) (prt 0 c)) 0 0 ∗ atPos EX (cell (.snd 0) c) 0 ∅ 0
        ∗ (∃ f, pt c cc0_scratch1 f) ∗ (∃ f, slot (F := F) 0 (prt 0 c) f) ∗ ow c (o3 c))
      ⊢ iprop((iprop(ow c (o4 c) ∗ atPos EX (cell (.snd 0) c) (0 + 1) ∅ 0 ∗ pt c cc0_scratch1 (pkt I 0 c)) -∗ WP c (k ⟨lD I c, 4#32⟩) Q)
        -∗ WP c (P6 c v5 v8 v14 io (lC I c) (k0_pay15 (I c).x (wT I c 3)) (sD I c) (k0_pay17 (F := F) (I c).lab) (Scalar.addi (w13 c) 3072#32) >>= k) Q) := by
  unfold P6
  rw [k0_part6_eq_skeleton]
  unfold k0_part6_skel lD
  simp only [Prog.lift, Prog.bind_op, Prog.bind_ret, Prog.pure_eq_ret, Prog.bind_assoc, pay19_eq, pay20_eq]
  iintro ⟨#HI, #Hlev, #Hrs, #Hrr, Hts, Htr, Hat, Hs, Hd, HO⟩ Hk
  iapply (wp_pack c (sD I c) (lD I c)) $$ Hs
  iintro Hs
  iapply (wp_packet I K 0 ![0, 0, 0] Facts₀.inb_S3x1024x2_S1x1024x2_0_0_0 rfl rfl rfl sS0 rS0 rfl rfl c _ (dev4_eq c) (o4 c) (o3 c) rfl) $$ [Hts Htr Hs Hd HO]
  · isplitr; · iexact HI
    isplitr; · iexact Hrs
    isplitr; · iexact Hrr
    isplitl [Hts]; · iexact Hts
    isplitl [Htr]; · iexact Htr
    isplitl [Hs]; · iexact Hs
    isplitl [Hd]; · iexact Hd
    iexact HO
  iintro ⟨HO, Hc⟩
  iapply (wp_gone I K 0 sS0 rfl c ((above4 c).mono (Nat.zero_le _))) $$ [Hc Hat HO]
  · isplitr; · iexact HI
    isplitr; · iexact Hlev
    isplitl [Hc]; · iexact Hc
    isplitl [Hat]; · iexact Hat
    iexact HO
  iintro ⟨HO, Hat, Hs⟩
  iapply Hk
  iframe HO Hat Hs

/-- Part 7: the first packet in, added, and the second packed. -/
theorem part7_run {α : Type} (K : GSem nD τ sig → ℕ) (c : Dev nD) (v2 v5 v8 v14 v15 v4 : BitVec 32)
    (k : _ → Prog (TpuEff nD τ sig (Elt F) Λ₀ .tc) α) (Q : α → sProp 𝕄) :
    iprop(invs I K ∗ levAts L lv ∗ cred (tallyAt (cell (.rcv 0) c) () N) ∗ atPos EX (cell (.rcv 0) c) 0 ∅ 0
        ∗ (∃ f, pt c cc0_scratch1 f) ∗ ow c (o4 c))
      ⊢ iprop((iprop(ow c (o4 c) ∗ atPos EX (cell (.rcv 0) c) (0 + 1) ∅ 0 ∗ (∃ f, slot (F := F) 0 c f) ∗ pt c cc0_scratch1 (pkt I 1 c))
            -∗ WP c (k ⟨stS I 1 c, stL I 1 c⟩) Q)
        -∗ WP c (P7 v2 v5 v8 v14 v15 (sD I c) (lD I c) v4 >>= k) Q) := by
  unfold P7
  rw [k0_part7_eq_skeleton]
  unfold k0_part7_skel
  simp only [Prog.lift, Prog.bind_op, Prog.bind_ret, Prog.pure_eq_ret, Prog.bind_assoc, pay23_eq, pay24_eq]
  iintro ⟨#HI, #Hlev, Hc, Hat, Hs, HO⟩ Hk
  iapply (wp_come I K 0 rS0 rfl c (above4 c) ![0, 0, 0] Facts₀.inb_S3x1024x2_S1x1024x2_0_0_0) $$ [Hc Hat HO]
  · isplitr; · iexact HI
    isplitr; · iexact Hlev
    isplitl [Hc]; · iexact Hc
    isplitl [Hat]; · iexact Hat
    iexact HO
  iintro ⟨HO, Hat, Hr⟩
  rw [show pkt I 0 (prt 0 c) = pk (stS I 0 (prt 0 c)) (stL I 0 (prt 0 c)) from rfl]
  iapply (wp_col 0 c (stS I 0 (prt 0 c)) (stL I 0 (prt 0 c)) ![0, 0, 0] rfl rfl _ _ (col_sub ![0, 0, 0] _ Facts₀.inb_S3x1024x2_S1x1024x2_0_0_0 _ rfl rfl rfl)) $$ Hr
  iintro Hr
  iapply (wp_col' 0 c (stS I 0 (prt 0 c)) (stL I 0 (prt 0 c)) ![0, 0, 1] rfl rfl _ _ (col_sub ![0, 0, 0] _ Facts₀.inb_S3x1024x2_S1x1024x2_0_0_0 _ rfl rfl rfl)) $$ Hr
  iintro Hr
  iapply (wp_pack c (stS I 1 c) (stL I 1 c)) $$ Hs
  iintro Hs
  iapply Hk
  isplitl [HO]; · iexact HO
  isplitl [Hat]; · iexact Hat
  isplitl [Hr]; · iexists _; iexact Hr
  iexact Hs

/-- Part 8: the second packet sent, gone and in; added, and the third packed. -/
theorem part8_run {α : Type} (K : GSem nD τ sig → ℕ) (c : Dev nD) (v2 v8 v15 : BitVec 32)
    (k : _ → Prog (TpuEff nD τ sig (Elt F) Λ₀ .tc) α) (Q : α → sProp 𝕄) :
    iprop(invs I K ∗ levAts L lv ∗ reached EX (cell (.snd 1) c) 0 ∗ reached EX (cell (.rcv 1) (prt 1 c)) 0
        ∗ dutyTok EX (cell (.snd 1) c) 0 0 ∗ dutyTok EX (cell (.rcv 1) (prt 1 c)) 0 0 ∗ atPos EX (cell (.snd 1) c) 0 ∅ 0
        ∗ cred (tallyAt (cell (.rcv 1) c) () N) ∗ atPos EX (cell (.rcv 1) c) 0 ∅ 0
        ∗ pt c cc0_scratch1 (pkt I 1 c) ∗ (∃ f, slot (F := F) 1 (prt 1 c) f) ∗ ow c (o4 c))
      ⊢ iprop((iprop(ow c (o5 c) ∗ atPos EX (cell (.snd 1) c) (0 + 1) ∅ 0 ∗ atPos EX (cell (.rcv 1) c) (0 + 1) ∅ 0
              ∗ (∃ f, slot (F := F) 1 c f) ∗ pt c cc0_scratch1 (pkt I 2 c))
            -∗ WP c (k ⟨stS I 2 c, stL I 2 c⟩) Q)
        -∗ WP c (P8 c v2 v8 v15 (stS I 1 c) (stL I 1 c) >>= k) Q) := by
  unfold P8
  rw [k0_part8_eq_skeleton]
  unfold k0_part8_skel
  simp only [Prog.lift, Prog.bind_op, Prog.bind_ret, Prog.pure_eq_ret, Prog.bind_assoc, pay27_eq, pay28_eq]
  iintro ⟨#HI, #Hlev, #Hrs, #Hrr, Hts, Htr, Hat, Hc', Hat', Hs, Hd, HO⟩ Hk
  iapply (wp_packet I K 1 ![1, 0, 0] Facts₀.inb_S3x1024x2_S1x1024x2_1_0_0 rfl rfl rfl sS1 rS1 rfl rfl c _ (dev5_eq c) (o5 c) (o4 c) rfl) $$ [Hts Htr Hs Hd HO]
  · isplitr; · iexact HI
    isplitr; · iexact Hrs
    isplitr; · iexact Hrr
    isplitl [Hts]; · iexact Hts
    isplitl [Htr]; · iexact Htr
    isplitl [Hs]; · iexact Hs
    isplitl [Hd]; · iexact Hd
    iexact HO
  iintro ⟨HO, Hc⟩
  iapply (wp_gone I K 1 sS1 rfl c ((above5 c).mono (Nat.zero_le _))) $$ [Hc Hat HO]
  · isplitr; · iexact HI
    isplitr; · iexact Hlev
    isplitl [Hc]; · iexact Hc
    isplitl [Hat]; · iexact Hat
    iexact HO
  iintro ⟨HO, Hat, Hs⟩
  iapply (wp_come I K 1 rS1 rfl c (above5 c) ![1, 0, 0] Facts₀.inb_S3x1024x2_S1x1024x2_1_0_0) $$ [Hc' Hat' HO]
  · isplitr; · iexact HI
    isplitr; · iexact Hlev
    isplitl [Hc']; · iexact Hc'
    isplitl [Hat']; · iexact Hat'
    iexact HO
  iintro ⟨HO, Hat', Hr⟩
  rw [show pkt I 1 (prt 1 c) = pk (stS I 1 (prt 1 c)) (stL I 1 (prt 1 c)) from rfl]
  iapply (wp_col 1 c (stS I 1 (prt 1 c)) (stL I 1 (prt 1 c)) ![1, 0, 0] rfl rfl _ _ (col_sub ![1, 0, 0] _ Facts₀.inb_S3x1024x2_S1x1024x2_1_0_0 _ rfl rfl rfl)) $$ Hr
  iintro Hr
  iapply (wp_col' 1 c (stS I 1 (prt 1 c)) (stL I 1 (prt 1 c)) ![1, 0, 1] rfl rfl _ _ (col_sub ![1, 0, 0] _ Facts₀.inb_S3x1024x2_S1x1024x2_1_0_0 _ rfl rfl rfl)) $$ Hr
  iintro Hr
  iapply (wp_pack c (stS I 2 c) (stL I 2 c)) $$ [Hs]
  · iexists _; iexact Hs
  iintro Hs
  iapply Hk
  isplitl [HO]; · iexact HO
  isplitl [Hat]; · iexact Hat
  isplitl [Hat']; · iexact Hat'
  isplitl [Hr]; · iexists _; iexact Hr
  iexact Hs

/-- Part 9: the third packet sent, gone and in; its first column added, its second read. -/
theorem part9_run {α : Type} (K : GSem nD τ sig → ℕ) (c : Dev nD) (v2 v5 v16 : BitVec 32)
    (k : _ → Prog (TpuEff nD τ sig (Elt F) Λ₀ .tc) α) (Q : α → sProp 𝕄) :
    iprop(invs I K ∗ levAts L lv ∗ reached EX (cell (.snd 2) c) 0 ∗ reached EX (cell (.rcv 2) (prt 2 c)) 0
        ∗ dutyTok EX (cell (.snd 2) c) 0 0 ∗ dutyTok EX (cell (.rcv 2) (prt 2 c)) 0 0 ∗ atPos EX (cell (.snd 2) c) 0 ∅ 0
        ∗ cred (tallyAt (cell (.rcv 2) c) () N) ∗ atPos EX (cell (.rcv 2) c) 0 ∅ 0
        ∗ pt c cc0_scratch1 (pkt I 2 c) ∗ (∃ f, slot (F := F) 2 (prt 2 c) f) ∗ ow c (o5 c))
      ⊢ iprop((iprop(ow c (o6 c) ∗ atPos EX (cell (.snd 2) c) (0 + 1) ∅ 0 ∗ atPos EX (cell (.rcv 2) c) (0 + 1) ∅ 0
              ∗ (∃ f, slot (F := F) 2 c f) ∗ pt c cc0_scratch1 (pkt I 2 c))
            -∗ WP c (k ⟨nx 2 (stS I 2) c, row (stL I 2 (prt 2 c))⟩) Q)
        -∗ WP c (P9 c v2 v5 v16 (stS I 2 c) >>= k) Q) := by
  unfold P9
  rw [k0_part9_eq_skeleton]
  unfold k0_part9_skel
  simp only [Prog.lift, Prog.bind_op, Prog.bind_ret, Prog.pure_eq_ret, Prog.bind_assoc]
  iintro ⟨#HI, #Hlev, #Hrs, #Hrr, Hts, Htr, Hat, Hc', Hat', Hs, Hd, HO⟩ Hk
  iapply (wp_packet I K 2 ![2, 0, 0] Facts₀.inb_S3x1024x2_S1x1024x2_2_0_0 rfl rfl rfl sS2 rS2 rfl rfl c _ (dev6_eq c) (o6 c) (o5 c) rfl) $$ [Hts Htr Hs Hd HO]
  · isplitr; · iexact HI
    isplitr; · iexact Hrs
    isplitr; · iexact Hrr
    isplitl [Hts]; · iexact Hts
    isplitl [Htr]; · iexact Htr
    isplitl [Hs]; · iexact Hs
    isplitl [Hd]; · iexact Hd
    iexact HO
  iintro ⟨HO, Hc⟩
  iapply (wp_gone I K 2 sS2 rfl c ((above6 c).mono (Nat.zero_le _))) $$ [Hc Hat HO]
  · isplitr; · iexact HI
    isplitr; · iexact Hlev
    isplitl [Hc]; · iexact Hc
    isplitl [Hat]; · iexact Hat
    iexact HO
  iintro ⟨HO, Hat, Hs⟩
  iapply (wp_come I K 2 rS2 rfl c (above6 c) ![2, 0, 0] Facts₀.inb_S3x1024x2_S1x1024x2_2_0_0) $$ [Hc' Hat' HO]
  · isplitr; · iexact HI
    isplitr; · iexact Hlev
    isplitl [Hc']; · iexact Hc'
    isplitl [Hat']; · iexact Hat'
    iexact HO
  iintro ⟨HO, Hat', Hr⟩
  rw [show pkt I 2 (prt 2 c) = pk (stS I 2 (prt 2 c)) (stL I 2 (prt 2 c)) from rfl]
  iapply (wp_col 2 c (stS I 2 (prt 2 c)) (stL I 2 (prt 2 c)) ![2, 0, 0] rfl rfl _ _ (col_sub ![2, 0, 0] _ Facts₀.inb_S3x1024x2_S1x1024x2_2_0_0 _ rfl rfl rfl)) $$ Hr
  iintro Hr
  iapply (wp_col' 2 c (stS I 2 (prt 2 c)) (stL I 2 (prt 2 c)) ![2, 0, 1] rfl rfl _ _ (col_sub ![2, 0, 0] _ Facts₀.inb_S3x1024x2_S1x1024x2_2_0_0 _ rfl rfl rfl)) $$ Hr
  iintro Hr
  iapply Hk
  isplitl [HO]; · iexact HO
  isplitl [Hat]; · iexact Hat
  isplitl [Hat']; · iexact Hat'
  isplitl [Hr]; · iexists _; iexact Hr
  iexact Hs

/-! ## The exit handshake -/

/-- Signalling the exit semaphore of the partner across axis `r`. -/
theorem wp_ext {α : Type} (K : GSem nD τ sig → ℕ) (r : Fin 3) (c d : Dev nD) (hd : d = prt r c) (O O' : Due) (hO : O' = O + owX r c)
    (k : PUnit → Prog (TpuEff nD τ sig (Elt F) Λ₀ .tc) α) (Q : α → sProp 𝕄) :
    iprop(invs I K ∗ reached EX (cell .ext (prt r c)) 0 ∗ dutyTok EX (cell .ext (prt r c)) 0 r ∗ ow c O')
      ⊢ iprop((ow c O -∗ WP c (k ⟨⟩) Q) -∗ WP c (.op (.semSignal (d : Thread nD τ) extS 1) k) Q) := by
  subst hd
  iintro ⟨#HI, #Hre, Ht, ⟨%W, HO⟩⟩ Hk
  iapply (Rounds.wp_signal 𝒱₀ EX (rd I) (c : Thread nD τ) none (dst := (prt r c : Thread nD τ)) (sem := extS) (r := 0) (d := r) (κ := K (cell .ext (prt r c)))
      (mem_ext I r (prt r c)) (amount_cell I .ext (prt r c) r) () O (O₀ := O') hO) $$ [HO Ht]
  · isplitr; · iapply (invs_at I K .ext (prt r c)); iexact HI
    isplitl [HO]; · iexact HO
    isplitl [Ht]; · iexact Ht
    rw [payload_cell I .ext (prt r c) r]
    isplitr
    · iempintro
    · iexact Hre
  iintro HO
  iapply Hk
  iexists W
  iexact HO

/-- Waiting for the three partners' exit signals. -/
theorem wp_extWait {α : Type} (K : GSem nD τ sig → ℕ) (c : Dev nD) (k : PUnit → Prog (TpuEff nD τ sig (Elt F) Λ₀ .tc) α) (Q : α → sProp 𝕄) :
    iprop(invs I K ∗ levAts L lv ∗ cred (tallyAt (cell .ext c) () 3) ∗ atPos EX (cell .ext c) 0 ∅ 0 ∗ ow c 0)
      ⊢ iprop((iprop(ow c 0 ∗ atPos EX (cell .ext c) (0 + 1) ∅ 0) -∗ WP c (k ⟨⟩) Q)
        -∗ WP c (.op (.semWait extS 3) k) Q) := by
  iintro ⟨#HI, #Hlev, Hc, Hat, ⟨%W, HO⟩⟩ Hk
  iapply (Rounds.wp_wait_rest_token 𝒱₀ EX (rd I) (c : Thread nD τ) none (κ := K (cell .ext c))
      (wpE_semWait_eq 𝒱₀ (c : Thread nD τ) none Set.univ) (Set.mem_univ _) () (O := 0) (W := W) (R := 0) (m := 0) (T := ∅)
      ((Nat.zero_add 3).trans (expect_ext I c).symm)) $$ [Hc HO Hat]
  · isplitr; · iapply (invs_at I K .ext c); iexact HI
    isplitl [Hc]; · iexact Hc
    isplitl [HO]; · iexact HO
    isplitr; · iapply (mayWait (Above.zero 5) c (.reg extS) (by decide)); iexact Hlev
    iexact Hat
  iintro ⟨HO, Hat, -, -⟩
  iapply Hk
  isplitl [HO]; · iexists _; iexact HO
  iexact Hat

end Cert.KernelIdeal.Run

end
-- ==== Proof.Body.lean ====
/-
  The whole body: what a device holds when it starts, and what it holds when it has finished.
-/
module

public import proofs.«01_k».proof.Proof.Back

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → Inp F)

/-! ## Slots and their buffers -/

theorem unit_mem (o : Fin 3 → Nat) (h : ∀ a, o a + S1x1024x2.size a ≤ S3x1024x2.size a) (h1 : o 1 = 0) (h2 : o 2 = 0) (i : S3x1024x2.Idx) :
    i ∈ (rWin o h).view.set ↔ (i 0).val = o 0 := by
  have hs : (rWin o h).view.set = (Rect.unit (s := S3x1024x2) o S1x1024x2.size h).set := by
    show ((View.whole cc0_scratch2).slice _ |>.reshape _ _).set = _
    rw [View.set_reshape, View.set_slice_whole]
  rw [hs, Rect.mem_set_unit]
  constructor
  · intro hi
    have h3 : o 0 ≤ (i 0).val ∧ (i 0).val < o 0 + 1 := hi 0
    omega
  · intro hi a
    fin_cases a
    · show o 0 ≤ (i 0).val ∧ (i 0).val < o 0 + 1
      omega
    · exact ⟨by show o 1 ≤ _; rw [h1]; exact Nat.zero_le _, by show _ < o 1 + 1024; rw [h1]; exact lt_of_lt_of_eq (i 1).isLt (Nat.zero_add _).symm⟩
    · exact ⟨by show o 2 ≤ _; rw [h2]; exact Nat.zero_le _, by show _ < o 2 + 2; rw [h2]; exact lt_of_lt_of_eq (i 2).isLt (Nat.zero_add _).symm⟩

theorem mem_rSet0 (i : S3x1024x2.Idx) : i ∈ rSet 0 ↔ (i 0).val = 0 := unit_mem ![0, 0, 0] _ rfl rfl i
theorem mem_rSet1 (i : S3x1024x2.Idx) : i ∈ rSet 1 ↔ (i 0).val = 1 := unit_mem ![1, 0, 0] _ rfl rfl i
theorem mem_rSet2 (i : S3x1024x2.Idx) : i ∈ rSet 2 ↔ (i 0).val = 2 := unit_mem ![2, 0, 0] _ rfl rfl i

theorem r01 : Disjoint (rSet 0) (rSet 1) := Finset.disjoint_left.mpr fun i h h' => by rw [mem_rSet0] at h; rw [mem_rSet1] at h'; omega
theorem r012 : Disjoint (rSet 0 ∪ rSet 1) (rSet 2) := Finset.disjoint_left.mpr fun i h h' => by
  rw [mem_rSet2] at h'
  rcases Finset.mem_union.mp h with h | h
  · rw [mem_rSet0] at h; omega
  · rw [mem_rSet1] at h; omega
theorem r_all : rSet 0 ∪ rSet 1 ∪ rSet 2 = Finset.univ := Finset.eq_univ_iff_forall.mpr fun i => by
  rw [Finset.mem_union, Finset.mem_union, mem_rSet0, mem_rSet1, mem_rSet2]
  have : (i 0).val < 3 := (i 0).isLt
  omega

theorem slots_split (c : Dev nD) : (iprop(∃ f, pt (F := F) c cc0_scratch2 f) : sProp 𝕄)
    ⊢ iprop((∃ f, slot (F := F) 0 c f) ∗ (∃ f, slot (F := F) 1 c f) ∗ (∃ f, slot (F := F) 2 c f)) := by
  iintro ⟨%f, H⟩
  ihave H := (Entails.of_eq (show (pt c cc0_scratch2 f : sProp 𝕄) = (rM.view.loc (c : Thread nD τ) ↦[rSet 0 ∪ rSet 1 ∪ rSet 2]{fullShare} f) from by rw [r_all])) $$ H
  ihave H := (pointsTo_union (ℓ := rM.view.loc (c : Thread nD τ)) r012).1 $$ H
  icases H with ⟨H, H2⟩
  ihave H := (pointsTo_union (ℓ := rM.view.loc (c : Thread nD τ)) r01).1 $$ H
  icases H with ⟨H0, H1⟩
  isplitl [H0]; · iexists f; iexact H0
  isplitl [H1]; · iexists f; iexact H1
  iexists f; iexact H2

theorem slots_join (c : Dev nD) : (iprop((∃ f, slot (F := F) 0 c f) ∗ (∃ f, slot (F := F) 1 c f) ∗ (∃ f, slot (F := F) 2 c f)) : sProp 𝕄)
    ⊢ iprop(∃ f, pt (F := F) c cc0_scratch2 f) := by
  iintro ⟨⟨%f0, H0⟩, ⟨%f1, H1⟩, ⟨%f2, H2⟩⟩
  ihave H := (pointsTo_join (ℓ := rM.view.loc (c : Thread nD τ)) r01) $$ [H0 H1]
  · isplitl [H0] <;> iassumption
  ihave H := (pointsTo_join (ℓ := rM.view.loc (c : Thread nD τ)) r012) $$ [H H2]
  · isplitl [H] <;> iassumption
  rw [r_all]
  iexists _
  iexact H

theorem tile_mem (o : Fin 3 → Nat) (h : ∀ a, o a + S1x2048x1024.size a ≤ S2x2048x1024.size a) (h1 : o 1 = 0) (h2 : o 2 = 0) (i : S2x2048x1024.Idx) :
    i ∈ (Rect.unit (s := S2x2048x1024) o S1x2048x1024.size h).set ↔ (i 0).val = o 0 := by
  rw [Rect.mem_set_unit]
  constructor
  · intro hi
    have h3 : o 0 ≤ (i 0).val ∧ (i 0).val < o 0 + 1 := hi 0
    omega
  · intro hi a
    fin_cases a
    · show o 0 ≤ (i 0).val ∧ (i 0).val < o 0 + 1
      omega
    · exact ⟨by show o 1 ≤ _; rw [h1]; exact Nat.zero_le _, by show _ < o 1 + 2048; rw [h1]; exact lt_of_lt_of_eq (i 1).isLt (Nat.zero_add _).symm⟩
    · exact ⟨by show o 2 ≤ _; rw [h2]; exact Nat.zero_le _, by show _ < o 2 + 1024; rw [h2]; exact lt_of_lt_of_eq (i 2).isLt (Nat.zero_add _).symm⟩

theorem mem_bSet0 (i : S2x2048x1024.Idx) : i ∈ bSet0 ↔ (i 0).val = 0 := by rw [bSet0_eq]; exact tile_mem ![0, 0, 0] _ rfl rfl i
theorem mem_bSet1 (i : S2x2048x1024.Idx) : i ∈ bSet1 ↔ (i 0).val = 1 := by rw [bSet1_eq]; exact tile_mem ![1, 0, 0] _ rfl rfl i
theorem b01 : Disjoint bSet0 bSet1 := Finset.disjoint_left.mpr fun i h h' => by rw [mem_bSet0] at h; rw [mem_bSet1] at h'; omega
theorem b_all : bSet0 ∪ bSet1 = Finset.univ := Finset.eq_univ_iff_forall.mpr fun i => by
  rw [Finset.mem_union, mem_bSet0, mem_bSet1]
  have : (i 0).val < 2 := (i 0).isLt
  omega

theorem tiles_split (c : Dev nD) : (iprop(∃ f, pt (F := F) c cc0_scratch0 f) : sProp 𝕄) ⊢ iprop((∃ f, bPt0 (F := F) c f) ∗ (∃ f, bPt1 (F := F) c f)) := by
  iintro ⟨%f, H⟩
  ihave H := (Entails.of_eq (show (pt c cc0_scratch0 f : sProp 𝕄) = (bM.view.loc (c : Thread nD τ) ↦[bSet0 ∪ bSet1]{fullShare} f) from by rw [b_all])) $$ H
  ihave H := (pointsTo_union (ℓ := bM.view.loc (c : Thread nD τ)) b01).1 $$ H
  icases H with ⟨H0, H1⟩
  isplitl [H0] <;> iexists f <;> iassumption
theorem tiles_join (c : Dev nD) (t t' : Fin 4) : iprop(has0 I c t ∗ has1 I c t') ⊢ iprop(∃ f, pt (F := F) c cc0_scratch0 f) := by
  iintro ⟨⟨%f0, H0⟩, ⟨%f1, H1⟩⟩
  ihave H := (pointsTo_join (ℓ := bM.view.loc (c : Thread nD τ)) b01) $$ [H0 H1]
  · isplitl [H0] <;> iassumption
  rw [b_all]
  iexists _
  iexact H

/-! ## The body -/

/-- What a device holds of the protocol when its body starts, its own semaphores in use. -/
def opened (K : GSem nD τ sig → ℕ) (c : Dev nD) : sProp 𝕄 :=
  iprop(invs I K
    ∗ (atPos EX (cell .bar c) 0 ∅ 0 ∗ atPos EX (cell .ext c) 0 ∅ 0
      ∗ (atPos EX (cell (.snd 0) c) 0 ∅ 0 ∗ atPos EX (cell (.snd 1) c) 0 ∅ 0 ∗ atPos EX (cell (.snd 2) c) 0 ∅ 0)
      ∗ (atPos EX (cell (.rcv 0) c) 0 ∅ 0 ∗ atPos EX (cell (.rcv 1) c) 0 ∅ 0 ∗ atPos EX (cell (.rcv 2) c) 0 ∅ 0))
    ∗ (reached EX (cell .bar (prt 0 c)) 0 ∗ reached EX (cell .bar (prt 1 c)) 0 ∗ reached EX (cell .bar (prt 2 c)) 0)
    ∗ reached EX (cell .ext c) 0
    ∗ (reached EX (cell (.snd 0) c) 0 ∗ reached EX (cell (.snd 1) c) 0 ∗ reached EX (cell (.snd 2) c) 0)
    ∗ (reached EX (cell (.rcv 0) c) 0 ∗ reached EX (cell (.rcv 1) c) 0 ∗ reached EX (cell (.rcv 2) c) 0)
    ∗ (dutyTok EX (cell .bar (prt 0 c)) 0 0 ∗ dutyTok EX (cell .bar (prt 1 c)) 0 1 ∗ dutyTok EX (cell .bar (prt 2 c)) 0 2)
    ∗ (dutyTok EX (cell .ext (prt 0 c)) 0 0 ∗ dutyTok EX (cell .ext (prt 1 c)) 0 1 ∗ dutyTok EX (cell .ext (prt 2 c)) 0 2)
    ∗ (dutyTok EX (cell (.snd 0) c) 0 0 ∗ dutyTok EX (cell (.snd 1) c) 0 0 ∗ dutyTok EX (cell (.snd 2) c) 0 0)
    ∗ (dutyTok EX (cell (.rcv 0) (prt 0 c)) 0 0 ∗ dutyTok EX (cell (.rcv 1) (prt 1 c)) 0 0 ∗ dutyTok EX (cell (.rcv 2) (prt 2 c)) 0 0))

/-- What is promised to a device from the launch. -/
def creds (c : Dev nD) : sProp 𝕄 :=
  iprop(cred (tallyAt (cell .bar c) () 3) ∗ cred (tallyAt (cell .ext c) () 3)
    ∗ cred (tallyAt (cell (.rcv 0) c) () N) ∗ cred (tallyAt (cell (.rcv 1) c) () N) ∗ cred (tallyAt (cell (.rcv 2) c) () N))

/-- The exchange's semaphores and the tile semaphores at zero, but for the barrier. -/
def ownZero (c : Dev nD) : sProp 𝕄 :=
  iprop((semVal ((c : Thread nD τ), .dma tS0) 0 ∗ semVal ((c : Thread nD τ), .dma tS1) 0)
    ∗ (semVal (cell (.snd 0) c) 0 ∗ semVal (cell (.snd 1) c) 0 ∗ semVal (cell (.snd 2) c) 0)
    ∗ (semVal (cell (.rcv 0) c) 0 ∗ semVal (cell (.rcv 1) c) 0 ∗ semVal (cell (.rcv 2) c) 0)
    ∗ semVal (cell .ext c) 0)

/-- Before the body. -/
def bodyPre (K : GSem nD τ sig → ℕ) (c : Dev nD) : sProp 𝕄 :=
  iprop(opened I K c ∗ creds c ∗ levAts L lv
    ∗ (semVal ((c : Thread nD τ), .dma tS0) 0 ∗ semVal ((c : Thread nD τ), .dma tS1) 0)
    ∗ (∃ f, pt (F := F) c cc0_scratch0 f) ∗ (∃ f, pt (F := F) c cc0_scratch1 f) ∗ (∃ f, pt (F := F) c cc0_scratch2 f)
    ∗ wPt I fullShare c ∗ xPt I c ∗ labPt I c ∗ (∃ f, pt (F := F) c cc0_stg2_0 f) ∗ ow c (o0 c))

/-- After the body: every counter back at zero, the result in the output window. -/
def bodyPost (c : Dev nD) : sProp 𝕄 :=
  iprop(semVal (cell .bar c) 0 ∗ ownZero c
    ∗ (∃ f, pt (F := F) c cc0_scratch0 f) ∗ (∃ f, pt (F := F) c cc0_scratch1 f) ∗ (∃ f, pt (F := F) c cc0_scratch2 f)
    ∗ wPt I fullShare c ∗ xPt I c ∗ labPt I c ∗ pt c cc0_stg2_0 (res I c) ∗ ow c 0)

/-- The body at the kernel's own buffers. -/
abbrev PB := cc0_body (F := F) xM (Memref.isWhole_whole _) wM (Memref.isWhole_whole _) labM (Memref.isWhole_whole _) oM (Memref.isWhole_whole _) bM (Memref.isWhole_whole _) sM (Memref.isWhole_whole _) rM (Memref.isWhole_whole _) cc0_scratch3 cc0_scratch4 cc0_scratch5 cc0_scratch6

set_option maxHeartbeats 1000000 in
/-- The body's run: from what a device holds at its start to what it holds at its end. -/
theorem body_run (K : GSem nD τ sig → ℕ) (c : Dev nD) (Q : PUnit → sProp 𝕄) :
    bodyPre I K c ⊢ iprop((bodyPost I c -∗ Q ⟨⟩) -∗ WP c PB Q) := by
  unfold PB
  rw [cc0_body_eq_skeleton]
  unfold cc0_body_skel bodyPre opened creds
  iintro ⟨⟨#HI, ⟨Hab, Hae, ⟨Has0, Has1, Has2⟩, ⟨Har0, Har1, Har2⟩⟩, ⟨#Hb0, #Hb1, #Hb2⟩, #Hre, ⟨#Hs0, #Hs1, #Hs2⟩, ⟨#Hr0, #Hr1, #Hr2⟩,
    ⟨Htb0, Htb1, Htb2⟩, ⟨Hte0, Hte1, Hte2⟩, ⟨Hts0, Hts1, Hts2⟩, ⟨Htr0, Htr1, Htr2⟩⟩, ⟨Hcb, Hce, Hcr0, Hcr1, Hcr2⟩, #Hlev, ⟨Hv0, Hv1⟩,
    Hb, Hs, Hr, Hw, Hx, Hl, ⟨%fo, Ho⟩, HO⟩ Hk
  ihave Hr := (slots_split c) $$ Hr
  icases Hr with ⟨Hsl0, Hsl1, Hsl2⟩
  ihave Hb := (tiles_split c) $$ Hb
  icases Hb with ⟨Hbb0, Hbb1⟩
  ihave Hw := (pointsTo_share (PosShare.mem_left_op_right fullShare)).1 $$ Hw
  icases Hw with ⟨Hwl, Hwr⟩
  iapply (part1_run I K c) $$ [Htb0 Htb1 Hsl0 Hsl1 HO]
  · isplitr; · iexact HI
    isplitr; · iexact Hb0
    isplitr; · iexact Hb1
    isplitr; · iexact Hr0
    isplitr; · iexact Hr1
    isplitr; · iexact Hre
    isplitl [Htb0]; · iexact Htb0
    isplitl [Htb1]; · iexact Htb1
    isplitl [Hsl0]; · iexact Hsl0
    isplitl [Hsl1]; · iexact Hsl1
    iexact HO
  iintro %v2 %v5 %v8 %v11 %v14 %v15 %v16 %v31 HO
  iapply (part2_run I K c) $$ [Htb2 Hsl2 HO Hcb Hab Hwl Hwr Hbb0 Hbb1 Hv0 Hv1 Hx]
  · isplitr; · iexact HI
    isplitr; · iexact Hlev
    isplitr; · iexact Hb2
    isplitr; · iexact Hr2
    isplitr; · iexact Hre
    isplitl [Htb2]; · iexact Htb2
    isplitl [Hsl2]; · iexact Hsl2
    isplitl [HO]; · iexact HO
    isplitl [Hcb]; · iexact Hcb
    isplitl [Hab]; · iexact Hab
    isplitl [Hwl]; · iexact Hwl
    isplitl [Hwr]; · iexact Hwr
    isplitl [Hbb0]; · iexact Hbb0
    isplitl [Hbb1]; · iexact Hbb1
    isplitl [Hv0]; · iexact Hv0
    isplitl [Hv1]; · iexact Hv1
    iexact Hx
  iintro ⟨HO, Hab, Hp0, Hp1, Hp2, Hbb0, Hwl, Hv0, Hf1, Hx⟩
  unfold barPay
  icases Hp0 with ⟨Hsl0, #Hpr0, #Hpe0⟩
  icases Hp1 with ⟨Hsl1, #Hpr1, #Hpe1⟩
  icases Hp2 with ⟨Hsl2, #Hpr2, #Hpe2⟩
  iapply (part3_run I c) $$ [HO Hbb0 Hwl Hv0 Hf1 Hx Hl]
  · isplitr; · iexact Hlev
    isplitl [HO]; · iexact HO
    isplitl [Hbb0]; · iexact Hbb0
    isplitl [Hwl]; · iexact Hwl
    isplitl [Hv0]; · iexact Hv0
    isplitl [Hf1]; · iexact Hf1
    isplitl [Hx] <;> iassumption
  iintro ⟨HO, Hf0, Hbb1, Hwr, Hv1, Hx, Hl⟩
  iapply (part4_run I c) $$ [HO Hbb1 Hwr Hv1 Hf0 Hx Hl]
  · isplitr; · iexact Hlev
    isplitl [HO]; · iexact HO
    isplitl [Hf0]; · iexact Hf0
    isplitl [Hbb1]; · iexact Hbb1
    isplitl [Hwr]; · iexact Hwr
    isplitl [Hv1]; · iexact Hv1
    isplitl [Hx] <;> iassumption
  iintro ⟨HO, Hbb0, Hwl, Hv0, Hf1, Hx, Hl⟩
  iapply (part5_run I c) $$ [HO Hf1 Hx Hl]
  · isplitr; · iexact Hlev
    isplitl [HO]; · iexact HO
    isplitl [Hf1]; · iexact Hf1
    isplitl [Hx] <;> iassumption
  iintro ⟨HO, Hbb1, Hwr, Hv1, Hx, Hl⟩
  iapply (part6_run I K c) $$ [Hts0 Htr0 Has0 Hs Hsl0 HO]
  · isplitr; · iexact HI
    isplitr; · iexact Hlev
    isplitr; · iexact Hs0
    isplitr; · iexact Hpr0
    isplitl [Hts0]; · iexact Hts0
    isplitl [Htr0]; · iexact Htr0
    isplitl [Has0]; · iexact Has0
    isplitl [Hs]; · iexact Hs
    isplitl [Hsl0]; · iexact Hsl0
    iexact HO
  iintro ⟨HO, Has0, Hs⟩
  iapply (part7_run I K c) $$ [Hcr0 Har0 Hs HO]
  · isplitr; · iexact HI
    isplitr; · iexact Hlev
    isplitl [Hcr0]; · iexact Hcr0
    isplitl [Har0]; · iexact Har0
    isplitl [Hs]; · iexists _; iexact Hs
    iexact HO
  iintro ⟨HO, Har0, Hsl0, Hs⟩
  iapply (part8_run I K c) $$ [Hts1 Htr1 Has1 Hcr1 Har1 Hs Hsl1 HO]
  · isplitr; · iexact HI
    isplitr; · iexact Hlev
    isplitr; · iexact Hs1
    isplitr; · iexact Hpr1
    isplitl [Hts1]; · iexact Hts1
    isplitl [Htr1]; · iexact Htr1
    isplitl [Has1]; · iexact Has1
    isplitl [Hcr1]; · iexact Hcr1
    isplitl [Har1]; · iexact Har1
    isplitl [Hs]; · iexact Hs
    isplitl [Hsl1]; · iexact Hsl1
    iexact HO
  iintro ⟨HO, Has1, Har1, Hsl1, Hs⟩
  iapply (part9_run I K c) $$ [Hts2 Htr2 Has2 Hcr2 Har2 Hs Hsl2 HO]
  · isplitr; · iexact HI
    isplitr; · iexact Hlev
    isplitr; · iexact Hs2
    isplitr; · iexact Hpr2
    isplitl [Hts2]; · iexact Hts2
    isplitl [Htr2]; · iexact Htr2
    isplitl [Has2]; · iexact Has2
    isplitl [Hcr2]; · iexact Hcr2
    isplitl [Har2]; · iexact Har2
    isplitl [Hs]; · iexact Hs
    isplitl [Hsl2]; · iexact Hsl2
    iexact HO
  iintro ⟨HO, Has2, Har2, Hsl2, Hs⟩
  simp only [semSignalWord, semWaitWord, Prog.lift, Prog.bind_op, Prog.bind_ret, Prog.pure_eq_ret, Prog.bind_assoc]
  iapply (wp_load 𝒱₀ (c : Thread nD τ) none Set.univ (m := oM) (Finset.subset_univ _)) $$ Ho
  iintro Ho
  iapply (wp_store 𝒱₀ (c : Thread nD τ) none Set.univ (m := oM) (r := Rect.unit (s := S1024x1) ![0, 0] S1024x1.size Facts₀.inb_S1024x1_S1024x1_0_0) (Mk := Finset.univ) (Finset.subset_univ _)) $$ Ho
  iintro Ho
  rw [write_o]
  iapply (wp_ext I K 0 c _ (dev7_eq c) (o7 c) (o6 c) rfl) $$ [Hte0 HO]
  · isplitr; · iexact HI
    isplitr; · iexact Hpe0
    isplitl [Hte0] <;> iassumption
  iintro HO
  iapply (wp_ext I K 1 c _ (dev8_eq c) (o8 c) (o7 c) rfl) $$ [Hte1 HO]
  · isplitr; · iexact HI
    isplitr; · iexact Hpe1
    isplitl [Hte1] <;> iassumption
  iintro HO
  iapply (wp_ext I K 2 c _ (dev9_eq c) 0 (o8 c) rfl) $$ [Hte2 HO]
  · isplitr; · iexact HI
    isplitr; · iexact Hpe2
    isplitl [Hte2] <;> iassumption
  iintro HO
  iapply (wp_extWait I K c) $$ [Hce Hae HO]
  · isplitr; · iexact HI
    isplitr; · iexact Hlev
    isplitl [Hce]; · iexact Hce
    isplitl [Hae] <;> iassumption
  iintro ⟨HO, Hae⟩
  unfold WP
  rw [wp_ret]
  imod (close I K .bar c) $$ [Hab] with Hab
  · isplitr; · iexact HI
    iexact Hab
  imod (close I K .ext c) $$ [Hae] with Hae
  · isplitr; · iexact HI
    iexact Hae
  imod (close I K (.snd 0) c) $$ [Has0] with Has0
  · isplitr; · iexact HI
    iexact Has0
  imod (close I K (.snd 1) c) $$ [Has1] with Has1
  · isplitr; · iexact HI
    iexact Has1
  imod (close I K (.snd 2) c) $$ [Has2] with Has2
  · isplitr; · iexact HI
    iexact Has2
  imod (close I K (.rcv 0) c) $$ [Har0] with Har0
  · isplitr; · iexact HI
    iexact Har0
  imod (close I K (.rcv 1) c) $$ [Har1] with Har1
  · isplitr; · iexact HI
    iexact Har1
  imod (close I K (.rcv 2) c) $$ [Har2] with Har2
  · isplitr; · iexact HI
    iexact Har2
  imodintro
  iapply Hk
  unfold bodyPost ownZero
  isplitl [Hab]; · iexact Hab
  isplitl [Hae Has0 Has1 Has2 Har0 Har1 Har2 Hv0 Hv1]
  · isplitl [Hv0 Hv1]; · isplitl [Hv0] <;> iassumption
    isplitl [Has0 Has1 Has2]
    · isplitl [Has0]; · iexact Has0
      isplitl [Has1] <;> iassumption
    isplitl [Har0 Har1 Har2]
    · isplitl [Har0]; · iexact Har0
      isplitl [Har1] <;> iassumption
    iexact Hae
  isplitl [Hbb0 Hbb1]
  · iapply (tiles_join I c 2 3)
    isplitl [Hbb0] <;> iassumption
  isplitl [Hs]; · iexists _; iexact Hs
  isplitl [Hsl0 Hsl1 Hsl2]
  · iapply (slots_join c)
    isplitl [Hsl0]; · iexact Hsl0
    isplitl [Hsl1] <;> iassumption
  isplitl [Hwl Hwr]
  · iapply (pointsTo_share (PosShare.mem_left_op_right fullShare)).2
    isplitl [Hwl] <;> iassumption
  isplitl [Hx]; · iexact Hx
  isplitl [Hl]; · iexact Hl
  isplitl [Ho]; · iexact Ho
  iexact HO

end Cert.KernelIdeal.Run

end
-- ==== Proof.Region.lean ====
/-
  The kernel's call as a region of the program: what its windows hold, the proof that its one point runs, and the region
  itself, entered with everything the exchange needs and left with every counter at zero.
-/
module

public import proofs.«01_k».proof.Proof.Body
public import proofs.«01_k».proof.Proof.Gen.KernelIdeal.Frame

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The inputs, and the windows -/

/-- What the devices compute from: their buffers when the region is entered. -/
def inp (c : Dev nD) : Inp F := ⟨V m c main_arg0, V m c main_arg1, V m c main_v1⟩

/-- An element of a window's block, which is the whole array, is the array's own element. -/
theorem blk_emb0 (t : Fin cfg0.N) (i : ((cfg0.win 0).xblock (cfg0.grid.coords t)).Idx) : ((cfg0.win 0).blk t).view.emb i = i := by
  funext a
  have h : ((((cfg0.win 0).blk t).view.emb i) a).val = 0 * (cfg0.win 0).size a + 1 * (i a).val := rfl
  exact Fin.ext (h.trans (by rw [Nat.zero_mul, Nat.zero_add, Nat.one_mul]))
theorem blk_emb1 (t : Fin cfg0.N) (i : ((cfg0.win 1).xblock (cfg0.grid.coords t)).Idx) : ((cfg0.win 1).blk t).view.emb i = i := by
  funext a
  have h : ((((cfg0.win 1).blk t).view.emb i) a).val = 0 * (cfg0.win 1).size a + 1 * (i a).val := rfl
  exact Fin.ext (h.trans (by rw [Nat.zero_mul, Nat.zero_add, Nat.one_mul]))
theorem blk_emb2 (t : Fin cfg0.N) (i : ((cfg0.win 2).xblock (cfg0.grid.coords t)).Idx) : ((cfg0.win 2).blk t).view.emb i = i := by
  funext a
  have h : ((((cfg0.win 2).blk t).view.emb i) a).val = 0 * (cfg0.win 2).size a + 1 * (i a).val := rfl
  exact Fin.ext (h.trans (by rw [Nat.zero_mul, Nat.zero_add, Nat.one_mul]))

theorem iblk_x (c : Dev nD) (t : Fin cfg0.N) : iblk m c 0 t = (inp m c).x :=
  funext fun i => congrArg (V m c main_arg0) (blk_emb0 t i)
theorem iblk_lab (c : Dev nD) (t : Fin cfg0.N) : iblk m c 1 t = (inp m c).lab :=
  funext fun i => congrArg (V m c main_v1) (blk_emb1 t i)
/-- Writing the whole block leaves what was written. -/
theorem blk_write (t : Fin cfg0.N) (f v : Col F) : ((cfg0.win 2).blk t).view.write (Elt F) f v Finset.univ = v := by
  funext i
  have h := View.write_emb_of_mem (Val := Elt F) (v := ((cfg0.win 2).blk t).view) f v (Finset.mem_univ i)
  rw [blk_emb2 t i] at h
  exact h

/-- What the region's invariant holds at entry: the exchange's cells in use, what the launch promised, the order of the
    waits and the tile semaphores. -/
def Xk (c : Dev nD) : sProp 𝕄 :=
  iprop((∃ K, opened (inp m) K c) ∗ creds (F := F) c ∗ levAts L lv
    ∗ (semVal ((c : Thread nD τ), .dma tS0) 0 ∗ semVal ((c : Thread nD τ), .dma tS1) 0))
/-- What the kernel leaves for after its region. -/
def Yk (c : Dev nD) : sProp 𝕄 := semVal (cell .bar c) 0
/-- The three buffers that no window stages. -/
def scr (c : Dev nD) : sProp 𝕄 :=
  iprop((∃ f, pt (F := F) c cc0_scratch0 f) ∗ (∃ f, pt (F := F) c cc0_scratch1 f) ∗ (∃ f, pt (F := F) c cc0_scratch2 f))

/-- The region: the input windows keep their blocks, the output window gets the result; everything owed before the one
    point is paid after it. -/
def dat (c : Dev nD) : Dat τ (Elt F) Unit ℕ UU ℕ cfg0 c where
  A w := V m c (Pipeline.arrRef spec0 w)
  after w _ := match w with
    | ⟨0, _⟩ => (inp m c).x
    | ⟨1, _⟩ => (inp m c).lab
    | ⟨2, _⟩ => res (inp m) c
  Φ t := if t.val = 0 then iprop(Xk m c ∗ wPt (inp m) fullShare c ∗ scr c ∗ ∃ r, prngReg c r)
    else iprop(Yk c ∗ ownZero c ∗ wPt (inp m) fullShare c ∗ scr c ∗ ∃ r, prngReg c r)
  q _ := fullShare
  owed t := if t.val = 0 then o0 c else 0

abbrev adm : (p : Fin 1) → (pcfgs (F := F) p).Adm := fun p => (cfgs p).toPCfg_adm
def pdats (_ : Fin 1) (c : Dev nD) : Dat τ (Elt F) Unit ℕ UU ℕ cfg0 c := dat m c

theorem share_eq (c : Dev nD) (w) : (dat m c).share w = fullShare := by unfold Dat.share; split <;> rfl
theorem owed_eq (c : Dev nD) (t) : (dat m c).owed t = if t.val = 0 then o0 c else 0 := rfl
theorem Φ_eq (c : Dev nD) (t) : (dat m c).Φ t = if t.val = 0 then iprop(Xk m c ∗ wPt (inp m) fullShare c ∗ scr c ∗ ∃ r, prngReg c r)
    else iprop(Yk c ∗ ownZero c ∗ wPt (inp m) fullShare c ∗ scr c ∗ ∃ r, prngReg c r) := rfl
theorem owed_zero (c : Dev nD) : (dat m c).owed 0 = o0 c := by rw [owed_eq]; exact if_pos rfl
theorem owed_first (c : Dev nD) (t : Fin cfg0.N) : (dat m c).owed t.castSucc = o0 c := by rw [owed_eq, fin_N0 t]; exact if_pos rfl
theorem owed_next (c : Dev nD) (t : Fin cfg0.N) : (dat m c).owed t.succ = 0 := by rw [owed_eq]; exact if_neg (by rw [Fin.val_succ]; omega)
theorem owed_last (c : Dev nD) : (dat m c).owed (Fin.last cfg0.N) = 0 := by
  rw [owed_eq]; exact if_neg (by rw [Fin.val_last, show cfg0.N = 1 from N_0]; decide)
theorem Φ_zero (c : Dev nD) : (dat m c).Φ 0 = iprop(Xk m c ∗ wPt (inp m) fullShare c ∗ scr c ∗ ∃ r, prngReg c r) := by
  rw [Φ_eq]; exact if_pos rfl
theorem Φ_first (c : Dev nD) (t : Fin cfg0.N) : (dat m c).Φ t.castSucc = iprop(Xk m c ∗ wPt (inp m) fullShare c ∗ scr c ∗ ∃ r, prngReg c r) := by
  rw [Φ_eq, fin_N0 t]; exact if_pos rfl
theorem Φ_next (c : Dev nD) (t : Fin cfg0.N) : (dat m c).Φ t.succ = iprop(Yk c ∗ ownZero c ∗ wPt (inp m) fullShare c ∗ scr c ∗ ∃ r, prngReg c r) := by
  rw [Φ_eq]; exact if_neg (by rw [Fin.val_succ]; omega)
theorem Φ_last (c : Dev nD) : (dat m c).Φ (Fin.last cfg0.N) = iprop(Yk c ∗ ownZero c ∗ wPt (inp m) fullShare c ∗ scr c ∗ ∃ r, prngReg c r) := by
  rw [Φ_eq]; exact if_neg (by rw [Fin.val_last, show cfg0.N = 1 from N_0]; decide)

/-- The waits of a core inside the region are not bounded, so its owed record is any. -/
theorem owes_in (c : Dev nD) (t) (O : Due) (h : (dat m c).owed t = O) : ow (F := F) c O ⊢ (dat m c).owesAt () t := by
  unfold ow Dat.owesAt Pipeline.owesWithin Dat.bound
  rw [h]
  iintro ⟨%W, HO⟩; iexists W
  isplitr; · ipureintro; exact fun _ _ => Or.inl trivial
  iexact HO
theorem owes_out (c : Dev nD) (t) (O : Due) (h : (dat m c).owed t = O) : (dat m c).owesAt () t ⊢ ow (F := F) c O := by
  unfold ow Dat.owesAt Pipeline.owesWithin
  rw [h]
  iintro ⟨%W, -, HO⟩; iexists W; iexact HO

theorem before_x (c : Dev nD) (t d) : (dat m c).before 0 t d = (inp m c).x := by
  unfold Dat.before
  rw [if_pos (fetch0_0 t)]
  exact iblk_x m c t
theorem before_lab (c : Dev nD) (t d) : (dat m c).before 1 t d = (inp m c).lab := by
  unfold Dat.before
  rw [if_pos (fetch0_1 t)]
  exact iblk_lab m c t

/-- A window's staging buffer held at the contents it is found with. -/
theorem found {c : Dev nD} {b : Ref sig .tc} {D : Type} (X : D → b.ty.Contents (Elt F)) (v : b.ty.Contents (Elt F)) (h : ∀ d, X d = v) :
    iprop(∃ d, owns c (Memref.whole b) fullShare (X d)) ⊢ pt c b v := by
  have e (d) : owns c (Memref.whole b) fullShare (X d) ⊢ pt c b v := by rw [h d, owns_whole]
  iintro ⟨%d, H⟩
  iapply (e d); iexact H
theorem found_any {c : Dev nD} {b : Ref sig .tc} {D : Type} (X : D → b.ty.Contents (Elt F)) :
    iprop(∃ d, owns c (Memref.whole b) fullShare (X d)) ⊢ iprop(∃ f, pt c b f) := by
  have e (d) : owns c (Memref.whole b) fullShare (X d) ⊢ pt c b (X d) := by rw [owns_whole]
  iintro ⟨%d, H⟩
  iexists (X d); iapply (e d); iexact H

/-- The region's one point runs: `body_run` between the windows. -/
theorem body_ok (c : Dev nD) : BodyObligation (dat m c) (defs₀ (F := F)) 𝒱₀ () Set.univ := fun t => by
  rw [Φ_first, Φ_next]
  obtain rfl := fin_N0 t
  rw [bigSep_W0, bigSep_W0]
  show iprop((Xk m c ∗ wPt (inp m) fullShare c ∗ scr c ∗ ∃ r, prngReg c r) ∗ (dat m c).owesAt () t0_0.castSucc
      ∗ (∃ d, owns c xM fullShare ((dat m c).before 0 t0_0 d)) ∗ (∃ d, owns c labM fullShare ((dat m c).before 1 t0_0 d))
      ∗ (∃ d, owns c oM fullShare ((dat m c).before 2 t0_0 d)))
    ⊢ WP c PB fun _ => iprop((Yk c ∗ ownZero c ∗ wPt (inp m) fullShare c ∗ scr c ∗ ∃ r, prngReg c r) ∗ (dat m c).owesAt () t0_0.succ
      ∗ owns c xM fullShare (inp m c).x ∗ owns c labM fullShare (inp m c).lab ∗ owns c oM fullShare (res (inp m) c))
  rw [owns_whole, owns_whole, owns_whole]
  unfold Xk scr Yk
  iintro ⟨⟨⟨⟨%K, Hg⟩, Hcr, Hlev, Hv⟩, Hw, ⟨Hb, Hs, Hr⟩, Hp⟩, HO, Hx, Hl, Ho⟩
  ihave HO := (owes_out m c _ (o0 c) (owed_first m c t0_0)) $$ HO
  ihave Hx := (found _ _ (before_x m c t0_0)) $$ Hx
  ihave Hl := (found _ _ (before_lab m c t0_0)) $$ Hl
  ihave Ho := (found_any _) $$ Ho
  iapply (body_run (inp m) K c) $$ [Hg Hcr Hlev Hv Hw Hb Hs Hr HO Hx Hl Ho]
  · unfold bodyPre
    isplitl [Hg]; · iexact Hg
    isplitl [Hcr]; · iexact Hcr
    isplitl [Hlev]; · iexact Hlev
    isplitl [Hv]; · iexact Hv
    isplitl [Hb]; · iexact Hb
    isplitl [Hs]; · iexact Hs
    isplitl [Hr]; · iexact Hr
    isplitl [Hw]; · iexact Hw
    isplitl [Hx]; · iexact Hx
    isplitl [Hl]; · iexact Hl
    isplitl [Ho]; · iexact Ho
    iexact HO
  unfold bodyPost
  iintro ⟨Hb0, Hz, Hb, Hs, Hr, Hw, Hx, Hl, Ho, HO⟩
  isplitr [HO Hx Hl Ho]
  · isplitl [Hb0]; · iexact Hb0
    isplitl [Hz]; · iexact Hz
    isplitl [Hw]; · iexact Hw
    isplitl [Hb Hs Hr]
    · isplitl [Hb]; · iexact Hb
      isplitl [Hs]; · iexact Hs
      iexact Hr
    iexact Hp
  isplitl [HO]
  · iapply (owes_in m c _ 0 (owed_next m c t0_0)); iexact HO
  isplitl [Hx]; · iexact Hx
  isplitl [Hl]; · iexact Hl
  iexact Ho

end Cert.KernelIdeal.Run

end
-- ==== Proof.Launch.lean ====
/-
  The region as a segment of the program: entered with the exchange's cells not yet in use, left with all counters at
  zero; beside it the two host reshapes.
-/
module

public import proofs.«01_k».proof.Proof.Region

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Buffers and counters -/

/-- A device's buffers that live as long as the program. -/
def bufs : Finset (DevRef τ sig) := (StableHlo.tcRefs τ sig).filter fun b => ¬ b.isScoped
/-- Those that are arrays of the region's windows, -/
abbrev arrs : Finset (DevRef τ sig) := Pipeline.arrRefs (τ := τ) spec0
/-- the others, -/
def others : Finset (DevRef τ sig) := bufs \ arrs
/-- and of these the one that the kernel reads itself. -/
def wBuf : Finset (DevRef τ sig) := {Proc.devRef .tc main_arg1}

theorem arrs_sub : arrs ⊆ bufs := by decide
theorem wBuf_sub : wBuf ⊆ others := by decide

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_list (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2)
      ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem wBuf_held (c : Dev nD) (W : Valuation τ sig (Elt F)) : (StableHlo.held (c : Thread nD τ) wBuf W : sProp 𝕄) = pt c main_arg1 (W main_arg1) := by
  unfold StableHlo.held wBuf
  exact bigSep_singleton

theorem bar_only : (Finset.univ.filter fun s : SemLoc sig => ¬ s.isScoped .tc) = {sem .bar} := by decide
theorem unscopedSems_eq (c : Dev nD) : (unscopedSems0 c : sProp 𝕄) = semVal (cell .bar c) 0 := by
  unfold unscopedSems0
  rw [bar_only, BI.bigSep_singleton]

/-- The kernel's own semaphores. -/
def osem : Fin 9 → SemLoc sig
  | 0 => .dma tS0 | 1 => .dma tS1
  | 2 => sem (.snd 0) | 3 => sem (.snd 1) | 4 => sem (.snd 2)
  | 5 => sem (.rcv 0) | 6 => sem (.rcv 1) | 7 => sem (.rcv 2)
  | 8 => sem .ext
theorem osem_facts : Pipeline.OwnSemFacts spec0 osem := by decide

theorem ownSems_list (c : Dev nD) : (Pipeline.ownSems0 osem c : sProp 𝕄)
    = iprop(semVal ((c : Thread nD τ), .dma tS0) 0 ∗ semVal ((c : Thread nD τ), .dma tS1) 0
      ∗ semVal (cell (.snd 0) c) 0 ∗ semVal (cell (.snd 1) c) 0 ∗ semVal (cell (.snd 2) c) 0
      ∗ semVal (cell (.rcv 0) c) 0 ∗ semVal (cell (.rcv 1) c) 0 ∗ semVal (cell (.rcv 2) c) 0 ∗ semVal (cell .ext c) 0) :=
  bigSep_univ_eq_bigSepL [(0 : Fin 9), 1, 2, 3, 4, 5, 6, 7, 8] (by decide) (by decide) fun k => (semVal ((c : Thread nD τ), osem k) 0 : sProp 𝕄)
theorem ownSems_out (c : Dev nD) : (Pipeline.ownSems0 osem c : sProp 𝕄) ⊢ ownZero c := by
  rw [ownSems_list]; unfold ownZero
  iintro ⟨H0, H1, H2, H3, H4, H5, H6, H7, H8⟩
  isplitl [H0 H1]; · isplitl [H0] <;> iassumption
  isplitl [H2 H3 H4]; · isplitl [H2]; · iexact H2
                        isplitl [H3] <;> iassumption
  isplitl [H5 H6 H7]; · isplitl [H5]; · iexact H5
                        isplitl [H6] <;> iassumption
  iexact H8
theorem ownSems_in (c : Dev nD) : ownZero c ⊢ (Pipeline.ownSems0 osem c : sProp 𝕄) := by
  rw [ownSems_list]; unfold ownZero
  iintro ⟨⟨H0, H1⟩, ⟨H2, H3, H4⟩, ⟨H5, H6, H7⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## Entering and leaving the region -/

/-- What a device holds of the exchange before its region: the barrier cell in use, the others still to be put in use. -/
def ghost (K : GSem nD τ sig → ℕ) (c : Dev nD) : sProp 𝕄 :=
  iprop(invs (inp m) K ∗ atPos EX (cell .bar c) 0 ∅ 0
    ∗ (openTok EX (cell .ext c)
      ∗ (openTok EX (cell (.snd 0) c) ∗ openTok EX (cell (.snd 1) c) ∗ openTok EX (cell (.snd 2) c))
      ∗ (openTok EX (cell (.rcv 0) c) ∗ openTok EX (cell (.rcv 1) c) ∗ openTok EX (cell (.rcv 2) c)))
    ∗ (reached EX (cell .bar (prt 0 c)) 0 ∗ reached EX (cell .bar (prt 1 c)) 0 ∗ reached EX (cell .bar (prt 2 c)) 0)
    ∗ (dutyTok EX (cell .bar (prt 0 c)) 0 0 ∗ dutyTok EX (cell .bar (prt 1 c)) 0 1 ∗ dutyTok EX (cell .bar (prt 2 c)) 0 2)
    ∗ (dutyTok EX (cell .ext (prt 0 c)) 0 0 ∗ dutyTok EX (cell .ext (prt 1 c)) 0 1 ∗ dutyTok EX (cell .ext (prt 2 c)) 0 2)
    ∗ (dutyTok EX (cell (.snd 0) c) 0 0 ∗ dutyTok EX (cell (.snd 1) c) 0 0 ∗ dutyTok EX (cell (.snd 2) c) 0 0)
    ∗ (dutyTok EX (cell (.rcv 0) (prt 0 c)) 0 0 ∗ dutyTok EX (cell (.rcv 1) (prt 1 c)) 0 0 ∗ dutyTok EX (cell (.rcv 2) (prt 2 c)) 0 0))

def Tk (c : Dev nD) : sProp 𝕄 := iprop((∃ K, ghost m K c) ∗ creds (F := F) c)

/-- A cell is put in use by handing in its counter at zero. -/
theorem open_one (K : GSem nD τ sig → ℕ) (k : Kd) (c : Dev nD) :
    iprop(invs (inp m) K ∗ openTok EX (cell k c) ∗ semVal (cell k c) 0)
      ⊢ (|={Set.univ}=> iprop(atPos EX (cell k c) 0 ∅ 0 ∗ reached EX (cell k c) 0) : sProp 𝕄) := by
  iintro ⟨#HI, Ho, Hs⟩
  iapply (Rounds.cell_open EX (rd (inp m)) (g := cell k c) (Set.mem_univ (K (cell k c)))) $$ [Ho Hs]
  isplitr; · iapply (invs_at (inp m) K k c); iexact HI
  isplitl [Ho] <;> iassumption

theorem open_all (c : Dev nD) : iprop(Tk m c ∗ Pipeline.ownSems0 osem c ∗ levAts L lv) ⊢ (|={Set.univ}=> Xk m c : sProp 𝕄) := by
  unfold Tk Xk ghost
  iintro ⟨⟨⟨%K, #HI, Hab, ⟨He, ⟨Hs0, Hs1, Hs2⟩, ⟨Hr0, Hr1, Hr2⟩⟩, Hrb, Htb, Hte, Hts, Htr⟩, Hcr⟩, Hos, Hlev⟩
  ihave Hos := (ownSems_out c) $$ Hos
  unfold ownZero
  icases Hos with ⟨Hv, ⟨Vs0, Vs1, Vs2⟩, ⟨Vr0, Vr1, Vr2⟩, Ve⟩
  imod (open_one m K .ext c) $$ [He Ve] with ⟨Hae, #Hre⟩
  · isplitr; · iexact HI
    isplitl [He] <;> iassumption
  imod (open_one m K (.snd 0) c) $$ [Hs0 Vs0] with ⟨Has0, #Hrs0⟩
  · isplitr; · iexact HI
    isplitl [Hs0] <;> iassumption
  imod (open_one m K (.snd 1) c) $$ [Hs1 Vs1] with ⟨Has1, #Hrs1⟩
  · isplitr; · iexact HI
    isplitl [Hs1] <;> iassumption
  imod (open_one m K (.snd 2) c) $$ [Hs2 Vs2] with ⟨Has2, #Hrs2⟩
  · isplitr; · iexact HI
    isplitl [Hs2] <;> iassumption
  imod (open_one m K (.rcv 0) c) $$ [Hr0 Vr0] with ⟨Har0, #Hrr0⟩
  · isplitr; · iexact HI
    isplitl [Hr0] <;> iassumption
  imod (open_one m K (.rcv 1) c) $$ [Hr1 Vr1] with ⟨Har1, #Hrr1⟩
  · isplitr; · iexact HI
    isplitl [Hr1] <;> iassumption
  imod (open_one m K (.rcv 2) c) $$ [Hr2 Vr2] with ⟨Har2, #Hrr2⟩
  · isplitr; · iexact HI
    isplitl [Hr2] <;> iassumption
  imodintro
  isplitl [Hab Hae Has0 Has1 Has2 Har0 Har1 Har2 Hrb Htb Hte Hts Htr]
  · iexists K; unfold opened
    isplitr; · iexact HI
    isplitl [Hab Hae Has0 Has1 Has2 Har0 Har1 Har2]
    · isplitl [Hab]; · iexact Hab
      isplitl [Hae]; · iexact Hae
      isplitl [Has0 Has1 Has2]
      · isplitl [Has0]; · iexact Has0
        isplitl [Has1] <;> iassumption
      isplitl [Har0]; · iexact Har0
      isplitl [Har1] <;> iassumption
    isplitl [Hrb]; · iexact Hrb
    isplitr; · iexact Hre
    isplitr
    · isplitr; · iexact Hrs0
      isplitr; · iexact Hrs1
      iexact Hrs2
    isplitr
    · isplitr; · iexact Hrr0
      isplitr; · iexact Hrr1
      iexact Hrr2
    isplitl [Htb]; · iexact Htb
    isplitl [Hte]; · iexact Hte
    isplitl [Hts] <;> iassumption
  isplitl [Hcr]; · iexact Hcr
  isplitl [Hlev]; · iexact Hlev
  iexact Hv

/-! ## The region's valuations -/

/-- The buffers after the region: the result window's array at the result, everything else unchanged. -/
def V' (c : Dev nD) : Valuation τ sig (Elt F) := Pipeline.withArrays spec0 c (V0 m c) fun w => (dat m c).arrAt w cfg0.N

theorem V'_other (c : Dev nD) (b : Ref sig .tc) (h : ∀ w, Pipeline.arrRef spec0 w ≠ b) : V' m c (Proc.devRef .tc b) = V0 m c (Proc.devRef .tc b) :=
  Pipeline.withArrays_of_ne spec0 c (V0 m c) _ b h
theorem V'_arr (c : Dev nD) (w : Fin cfg0.W) : V' m c (Proc.devRef .tc (Pipeline.arrRef spec0 w)) = (dat m c).arrAt w cfg0.N :=
  Pipeline.withArrays_arr spec0 winFacts0.arr_inj c (V0 m c) _ w
theorem V'_arg0 (c : Dev nD) : V' m c (Proc.devRef .tc main_arg0) = V0 m c (Proc.devRef .tc main_arg0) :=
  (V'_arr m c 0).trans ((dat m c).arrAt_in 0 rfl _)
theorem V'_v2 (c : Dev nD) : V' m c (Proc.devRef .tc main_v2) = res (inp m) c := by
  refine (V'_arr m c 2).trans ?_
  have h := (dat m c).arrAt_succ 2 t0_0
  rw [if_pos (flush0_2 t0_0)] at h
  exact (h.trans (blk_write t0_0 _ _))

theorem V'_rest (c : Dev nD) : ∀ b ∈ others \ wBuf, V' m c b = V0 m c b := fun b hb => by
  have h : b ∉ arrs := (Finset.mem_sdiff.mp (Finset.mem_sdiff.mp hb).1).2
  unfold V' Pipeline.withArrays
  rw [dif_neg]
  rintro ⟨w, hw⟩
  apply h
  unfold arrs Pipeline.arrRefs
  exact hw ▸ Finset.mem_map_of_mem _ (Finset.mem_image_of_mem _ (Finset.mem_univ w))

/-! ## The region -/

theorem scopedRest_scr (c : Dev nD) :
    (Pipeline.scopedRest (Ix := Unit) (Name := ℕ) (U := UU) (Lvl := ℕ) (Val := Elt F) (Pipeline.pin (pcfgs (F := F)) adm 0).spec c : sProp 𝕄) = scr c :=
  scopedRest0_eq c

theorem enter (c : Dev nD) :
    iprop(Pipeline.scopedRest (Pipeline.pin (pcfgs (F := F)) adm 0).spec c ∗ (∃ r, prngReg c r) ∗ StableHlo.held (c.tc : Thread nD τ) wBuf (V0 m c) ∗ Xk m c)
      ⊢ (pdats m 0 c).Φ 0 := by
  rw [show (pdats m 0 c).Φ 0 = iprop(Xk m c ∗ wPt (inp m) fullShare c ∗ scr c ∗ ∃ r, prngReg c r) from Φ_zero m c, scopedRest_scr, wBuf_held]
  iintro ⟨Hs, Hp, Hw, HX⟩
  isplitl [HX]; · iexact HX
  isplitl [Hw]; · iexact Hw
  isplitl [Hs] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) wBuf (V' m c)
      ∗ Pipeline.ownSems0 osem c ∗ Yk c) := by
  rw [show (pdats m 0 c).Φ (Fin.last _) = iprop(Yk c ∗ ownZero c ∗ wPt (inp m) fullShare c ∗ scr c ∗ ∃ r, prngReg c r) from Φ_last m c, scopedRest_scr, wBuf_held,
    V'_other m c main_arg1 (by decide)]
  iintro ⟨HY, Hz, Hw, Hs, Hp⟩
  isplitl [Hs]; · iexact Hs
  isplitl [Hp]; · iexact Hp
  isplitl [Hw]; · iexact Hw
  isplitl [Hz]; · iapply (ownSems_in c); iexact Hz
  iexact HY

theorem above0 (c : Dev nD) : Above 0 (o0 c) :=
  ((((above3 c).mono (by decide)).add (Above.tally _ _ _ (by decide))).add (Above.tally _ _ _ (by decide))).add (Above.tally _ _ _ (by decide))
theorem above_owed (c : Dev nD) (t) : Above 0 ((dat m c).owed t) := by
  rw [owed_eq]; split
  · exact above0 c
  · exact Above.zero 0

theorem stage_kind : ∀ (w : Fin 3) (s), kind (.dma ((cfg0.win w).sem s)) = none := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem osem_facts
    wBuf others wBuf_sub kit rfl (fun c => (body_ok m c).loose)
    (fun _ => 0) o0 (fun c => (owed_zero m c).trans (zero_add _).symm) (owed_last m) (fun _ => rfl) (share_eq m)
    (V0 m) (V' m) (V'_rest m)
    (Tk m) Yk (Xk m) Yk (open_all m) (enter m) (leave m)
    (fun c => by iintro H; imodintro; iexact H)
    (fun _ => 0)
    ⟨fun c w s => by rw [L_tc]; exact Finset.mem_singleton_self _,
      fun c w s => le_of_eq (congrArg lvK (stage_kind w s)),
      fun c t g i h => above_owed m c t g i h⟩
    (fun _ => iprop(emp))
    (fun _ _ => rfl) (fun c w => (V'_arr m c w).symm)

/-- What rides beside the buffers up to the region, and after it. -/
def before (c : Dev nD) : sProp 𝕄 := iprop(Tk m c ∗ (∃ r, prngReg c r) ∗ ow c (o0 c))
def after (c : Dev nD) : sProp 𝕄 := iprop(Yk c ∗ ow c 0)

theorem hops0 : ∀ op ∈ (hostOps0 : List (HloOp τ sig (Elt F))), op.bufs ⊆ bufs := fun op h => by
  simp only [List.mem_singleton] at h; subst h
  show ({Proc.devRef .tc main_arg2, Proc.devRef .tc main_v1} : Finset (DevRef τ sig)) ⊆ bufs; decide
theorem hops1 : ∀ op ∈ (hostOps1 : List (HloOp τ sig (Elt F))), op.bufs ⊆ bufs := fun op h => by
  simp only [List.mem_singleton] at h; subst h
  show ({Proc.devRef .tc main_v2, Proc.devRef .tc main_v3} : Finset (DevRef τ sig)) ⊆ bufs; decide

def seg0 : ℍ := Pipeline.HostSeg.ofOps _ _ _ _ _ bufs hostOps0 hops0 (List.forall_iff_forall_mem.mp hostOps0_fresh) (fun c b => m (c, b)) (before m)
def seg1 : ℍ := Pipeline.HostSeg.ofOps _ _ _ _ _ bufs hostOps1 hops1 (List.forall_iff_forall_mem.mp hostOps1_fresh) (V' m) after

theorem reg_pre (c : Dev nD) : (seg0 m).post c ⊢ (reg m).pre c := by
  show iprop(StableHlo.held (c.tc : Thread nD τ) bufs (V0 m c) ∗ before m c)
    ⊢ iprop(StableHlo.held (c.tc : Thread nD τ) arrs (V0 m c) ∗ (∃ r, prngReg c r)
      ∗ (StableHlo.held (c.tc : Thread nD τ) others (V0 m c) ∗ emp) ∗ Tk m c ∗ ∃ Wd, owes (c : Thread nD τ) (0 + o0 c) Wd)
  rw [zero_add, StableHlo.held_sub_split (c.tc : Thread nD τ) arrs_sub (V0 m c)]
  unfold before ow others
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c ⊢ (seg1 m).pre c := by
  show iprop(StableHlo.held (c.tc : Thread nD τ) arrs (V' m c) ∗ (∃ r, prngReg c r)
      ∗ (StableHlo.held (c.tc : Thread nD τ) others (V' m c) ∗ emp) ∗ Yk c ∗ ∃ Wd, owes (c : Thread nD τ) (0 : Due) Wd)
    ⊢ iprop(StableHlo.held (c.tc : Thread nD τ) bufs (V' m c) ∗ after c)
  rw [StableHlo.held_sub_split (c.tc : Thread nD τ) arrs_sub (V' m c)]
  unfold after ow others
  iintro ⟨Ha, -, ⟨Ho, -⟩, HY, HO⟩
  isplitl [Ha Ho]; · isplitl [Ha] <;> iassumption
  isplitl [HY] <;> iassumption

/-- The program's segments. -/
def segs : List (Pipeline.Seg (pcfgs (F := F)) adm (pdats m) () defs₀ 𝒱₀ L lv) := [.host (seg0 m), .region (reg m), .host (seg1 m)]

theorem main_eq (c : Dev nD) : main (F := F) c = Pipeline.Seg.run (segs m) :=
  Gen.main_segs adm (pdats m) () 𝒱₀ L lv (seg0 m) (seg1 m) (reg m) rfl rfl c

end Cert.KernelIdeal.Run

end
-- ==== Proof.Deal.lean ====
/-
  The launch: the exchange's cells are funded, their tokens and the launch's promises are dealt to the devices, and the whole
  program runs.
-/
module

public import proofs.«01_k».proof.Proof.Launch
public import Idealize.ShloMosaic.Adequacy
public import Idealize.ShloMosaic.Init

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kinds of the cells whose semaphores live as long as the kernel only. -/
def scK : Fin 7 → Kd
  | 0 => .ext | 1 => .snd 0 | 2 => .snd 1 | 3 => .snd 2 | 4 => .rcv 0 | 5 => .rcv 1 | 6 => .rcv 2
/-- The payments: at the barrier and the exit semaphore one across each axis, at the others one. -/
def pays : Fin 4 × Fin 3 → Kd × Fin 3
  | (0, r) => (.bar, r) | (1, r) => (.ext, r) | (2, r) => (.snd r, 0) | (3, r) => (.rcv r, 0)
theorem scK_inj : Function.Injective scK := by decide
theorem pays_inj : Function.Injective pays := by decide

theorem cell_inj {k k' : Kd} {c c' : Dev nD} (h : cell k c = cell k' c') : k = k' ∧ c = c' :=
  ⟨sem_inj (congrArg Prod.snd h), congrArg (fun g : GSem nD τ sig => g.1.1) h⟩

def barEmb : Dev nD ↪ GSem nD τ sig := ⟨fun c => cell .bar c, fun _ _ h => (cell_inj h).2⟩
def scEmb : Dev nD × Fin 7 ↪ GSem nD τ sig :=
  ⟨fun p => cell (scK p.2) p.1, fun _ _ h => Prod.ext (cell_inj h).2 (scK_inj (cell_inj h).1)⟩
def tokEmb : Dev nD × (Fin 4 × Fin 3) ↪ GSem nD τ sig × ℕ × Fin 3 :=
  ⟨fun p => (cell (pays p.2).1 p.1, 0, (pays p.2).2), fun p q h => by
    have h1 := cell_inj (congrArg Prod.fst h)
    have h2 := congrArg (fun t : GSem nD τ sig × ℕ × Fin 3 => t.2.2) h
    exact Prod.ext h1.2 (pays_inj (Prod.ext h1.1 h2))⟩

abbrev barCells : Finset (GSem nD τ sig) := Finset.univ.map barEmb
abbrev scCells : Finset (GSem nD τ sig) := Finset.univ.map scEmb
def tokens : Finset (GSem nD τ sig × ℕ × Fin 3) := Finset.univ.map tokEmb

theorem scK_ne : ∀ k, scK k ≠ .bar := by decide
theorem scK_onto : ∀ k : Kd, k ≠ .bar → ∃ j, scK j = k := by decide
theorem cells_disjoint : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact scK_ne p.2 (cell_inj h).1
theorem cell_mem (k : Kd) (c : Dev nD) : cell k c ∈ (barCells ∪ scCells : Finset (GSem nD τ sig)) := by
  by_cases h : k = .bar
  · subst h; exact Finset.mem_union_left _ (Finset.mem_map_of_mem barEmb (Finset.mem_univ c))
  · obtain ⟨j, rfl⟩ := scK_onto k h
    exact Finset.mem_union_right _ (Finset.mem_map_of_mem scEmb (Finset.mem_univ (c, j)))

/-- The launch's element: the staging cells', the exchange's, and no local transfer. -/
def u₀ : UU :=
  (initOf (Pipeline.cells (Pipeline.pin (pcfgs (F := F)) adm) cellOf_inj) (Pipeline.launchToks (Pipeline.pin (pcfgs (F := F)) adm) cellOf_inj),
    (launchOf barCells scCells tokens, 1))

/-- The exchange's element is one resource, kept on device 0 until it is dealt. -/
def G (c : Dev nD) : sProp 𝕄 := if c = 0 then BI.own (EX (launchOf barCells scCells tokens)) else iprop(emp)
theorem bigSep_G : bigSep Finset.univ (G (F := F)) = BI.own (EX (launchOf barCells scCells tokens)) := by
  have h : bigSep (Finset.univ.erase (0 : Dev nD)) (G (F := F)) = iprop(emp) := by
    have e : ∀ c ∈ Finset.univ.erase (0 : Dev nD), G (F := F) c = iprop(emp) := fun c hc => if_neg (Finset.ne_of_mem_erase hc)
    exact (bigSep_congr (Ψ := fun _ => (iprop(emp) : sProp 𝕄)) e).trans (BI.bigSep_emp_const _)
  rw [bigSep_univ_at _ (0 : Dev nD), h]
  exact BI.equiv_iff.mp sep_emp

theorem u₀_split : (ownU (u₀ (F := F)) : sProp 𝕄) ⊢ iprop(BI.own (EP (F := F) (u₀ (F := F)).1) ∗ bigSep Finset.univ (G (F := F))) := by
  rw [bigSep_G]
  iintro H
  ihave H := (ownU_pair _ _) $$ H
  icases H with ⟨HP, HX⟩
  isplitl [HP]; · iexact HP
  iexact HX

/-! ## What every device may consult, and what it gets -/

def records (κ : GSem nD τ sig → ℕ) : sProp 𝕄 :=
  iprop((bigSep (barCells ∪ scCells) fun g => cellInv EX (rd (inp m)) (κ g) g) ∗ bigSep barCells fun g => reached EX g 0)
instance records_persistent (κ : GSem nD τ sig → ℕ) : BI.Persistent (records m κ) := by unfold records; infer_instance

theorem records_invs (κ : GSem nD τ sig → ℕ) : records m κ ⊢ invs (inp m) κ := by
  have h : ∀ p ∈ (Finset.univ : Finset (Kd × Dev nD)), iprop(records m κ ∗ emp) ⊢ cellInv EX (rd (inp m)) (κ (cell p.1 p.2)) (cell p.1 p.2) := fun p _ => by
    have e : (bigSep (barCells ∪ scCells) fun g => (cellInv EX (rd (inp m)) (κ g) g : sProp 𝕄)) ⊢ cellInv EX (rd (inp m)) (κ (cell p.1 p.2)) (cell p.1 p.2) :=
      bigSep_elim (cell_mem p.1 p.2)
    unfold records
    iintro ⟨⟨HI, -⟩, -⟩
    iapply e $$ HI
  unfold invs
  iintro #HR
  iapply (bigSep_with_persistent (R := records m κ) (Φ := fun _ => iprop(emp)) h)
  isplitr; · iexact HR
  iapply (Entails.of_eq (BI.bigSep_emp_const (s := (Finset.univ : Finset (Kd × Dev nD)))).symm)
  iempintro
theorem records_reached (κ : GSem nD τ sig → ℕ) (c : Dev nD) : records m κ ⊢ reached EX (cell .bar c) 0 := by
  have e : (bigSep barCells fun g => (reached EX g 0 : sProp 𝕄)) ⊢ reached EX (cell .bar c) 0 :=
    bigSep_elim (Φ := fun g => (reached EX g 0 : sProp 𝕄)) (Finset.mem_map_of_mem barEmb (Finset.mem_univ c))
  unfold records
  iintro ⟨-, HR⟩
  iapply e $$ HR

/-- The rights to put a device's cells in use. -/
def opens (c : Dev nD) : sProp 𝕄 :=
  iprop(openTok EX (cell .ext c)
    ∗ (openTok EX (cell (.snd 0) c) ∗ openTok EX (cell (.snd 1) c) ∗ openTok EX (cell (.snd 2) c))
    ∗ (openTok EX (cell (.rcv 0) c) ∗ openTok EX (cell (.rcv 1) c) ∗ openTok EX (cell (.rcv 2) c)))
/-- The tokens of the payments that a device makes. -/
def duties (c : Dev nD) : sProp 𝕄 :=
  iprop((dutyTok EX (cell .bar (prt 0 c)) 0 0 ∗ dutyTok EX (cell .bar (prt 1 c)) 0 1 ∗ dutyTok EX (cell .bar (prt 2 c)) 0 2)
    ∗ (dutyTok EX (cell .ext (prt 0 c)) 0 0 ∗ dutyTok EX (cell .ext (prt 1 c)) 0 1 ∗ dutyTok EX (cell .ext (prt 2 c)) 0 2)
    ∗ (dutyTok EX (cell (.snd 0) c) 0 0 ∗ dutyTok EX (cell (.snd 1) c) 0 0 ∗ dutyTok EX (cell (.snd 2) c) 0 0)
    ∗ (dutyTok EX (cell (.rcv 0) (prt 0 c)) 0 0 ∗ dutyTok EX (cell (.rcv 1) (prt 1 c)) 0 0 ∗ dutyTok EX (cell (.rcv 2) (prt 2 c)) 0 0))
def linear (c : Dev nD) : sProp 𝕄 := iprop(atPos EX (cell .bar c) 0 ∅ 0 ∗ opens (F := F) c ∗ duties (F := F) c)

theorem ghost_intro (κ : GSem nD τ sig → ℕ) (c : Dev nD) : iprop(records m κ ∗ linear c) ⊢ iprop(∃ K, ghost m K c) := by
  unfold linear opens duties
  iintro ⟨#HR, Hab, Ho, Htb, Hte, Hts, Htr⟩
  iexists κ; unfold ghost
  isplitr; · iapply (records_invs m κ); iexact HR
  isplitl [Hab]; · iexact Hab
  isplitl [Ho]; · iexact Ho
  isplitr
  · isplitr; · iapply (records_reached m κ (prt 0 c)); iexact HR
    isplitr; · iapply (records_reached m κ (prt 1 c)); iexact HR
    iapply (records_reached m κ (prt 2 c)); iexact HR
  isplitl [Htb]; · iexact Htb
  isplitl [Hte]; · iexact Hte
  isplitl [Hts] <;> iassumption

theorem opens_deal : bigSep scCells (fun g => (openTok EX g : sProp 𝕄)) ⊢ bigSep Finset.univ fun c : Dev nD => opens (F := F) c := by
  rw [bigSep_map, bigSep_univ_prod]
  refine bigSep_mono fun c _ => ?_
  rw [bigSep_univ_eq_bigSepL [(0 : Fin 7), 1, 2, 3, 4, 5, 6] (by decide) (by decide)]
  show iprop(openTok EX (cell .ext c) ∗ openTok EX (cell (.snd 0) c) ∗ openTok EX (cell (.snd 1) c) ∗ openTok EX (cell (.snd 2) c)
    ∗ openTok EX (cell (.rcv 0) c) ∗ openTok EX (cell (.rcv 1) c) ∗ openTok EX (cell (.rcv 2) c)) ⊢ opens c
  unfold opens
  iintro ⟨He, H0, H1, H2, H3⟩
  isplitl [He]; · iexact He
  isplitl [H0 H1 H2]
  · isplitl [H0]; · iexact H0
    isplitl [H1] <;> iassumption
  iexact H3

/-- The tokens of the payments that a device receives. -/
def dues (c : Dev nD) : sProp 𝕄 :=
  iprop((dutyTok EX (cell .bar c) 0 0 ∗ dutyTok EX (cell .bar c) 0 1 ∗ dutyTok EX (cell .bar c) 0 2)
    ∗ (dutyTok EX (cell .ext c) 0 0 ∗ dutyTok EX (cell .ext c) 0 1 ∗ dutyTok EX (cell .ext c) 0 2)
    ∗ (dutyTok EX (cell (.snd 0) c) 0 0 ∗ dutyTok EX (cell (.snd 1) c) 0 0 ∗ dutyTok EX (cell (.snd 2) c) 0 0)
    ∗ (dutyTok EX (cell (.rcv 0) c) 0 0 ∗ dutyTok EX (cell (.rcv 1) c) 0 0 ∗ dutyTok EX (cell (.rcv 2) c) 0 0))

theorem tokens_dues : bigSep tokens (fun x => (dutyTok EX x.1 x.2.1 x.2.2 : sProp 𝕄)) = bigSep Finset.univ fun c : Dev nD => dues (F := F) c := by
  unfold tokens
  rw [bigSep_map, bigSep_univ_prod]
  refine bigSep_congr fun c _ => ?_
  rw [bigSep_univ_prod, bigSep_univ_eq_bigSepL [(0 : Fin 4), 1, 2, 3] (by decide) (by decide)]
  simp only [bigSep3]
  rfl

theorem across (r : Fin 3) (Φ : Dev nD → sProp 𝕄) : bigSep Finset.univ Φ = bigSep Finset.univ fun c => Φ (prt r c) := bigSep_univ_equiv (prtE r) Φ

/-- Each token goes to the device that pays. -/
theorem tokens_deal : bigSep tokens (fun x => (dutyTok EX x.1 x.2.1 x.2.2 : sProp 𝕄)) ⊢ bigSep Finset.univ fun c : Dev nD => duties (F := F) c := by
  rw [tokens_dues]
  unfold dues duties
  simp only [bigSep_sep']
  rw [across 0 (fun c => dutyTok EX (cell .bar c) 0 0), across 1 (fun c => dutyTok EX (cell .bar c) 0 1), across 2 (fun c => dutyTok EX (cell .bar c) 0 2),
    across 0 (fun c => dutyTok EX (cell .ext c) 0 0), across 1 (fun c => dutyTok EX (cell .ext c) 0 1), across 2 (fun c => dutyTok EX (cell .ext c) 0 2),
    across 0 (fun c => dutyTok EX (cell (.rcv 0) c) 0 0), across 1 (fun c => dutyTok EX (cell (.rcv 1) c) 0 0), across 2 (fun c => dutyTok EX (cell (.rcv 2) c) 0 0)]

/-! ## The launch's promises -/

theorem owed_at (k k' : Kd) (r : Fin 3) (d c : Dev nD) (n : ℕ) :
    (tallyAt (cell k' (prt r d)) () n : Due) (cell k c) () = if k = k' then (if d = prt r c then n else 0) else 0 := by
  rw [tallyAt_apply]
  by_cases h : k = k'
  · subst h
    rw [if_pos rfl]
    by_cases hd : d = prt r c
    · subst hd; rw [if_pos rfl, prt_prt, if_pos ⟨rfl, rfl⟩]
    · rw [if_neg hd, if_neg fun h => hd (by rw [(cell_inj h.1).2, prt_prt])]
  · rw [if_neg h, if_neg fun h' => h (cell_inj h'.1).1]

theorem o0_at (k : Kd) (d c : Dev nD) : o0 d (cell k c) ()
    = (0 + (if k = .ext then (if d = prt 2 c then 1 else 0) else 0) + (if k = .ext then (if d = prt 1 c then 1 else 0) else 0)
      + (if k = .ext then (if d = prt 0 c then 1 else 0) else 0)
      + (if k = .rcv 2 then (if d = prt 2 c then N else 0) else 0) + (if k = .rcv 1 then (if d = prt 1 c then N else 0) else 0)
      + (if k = .rcv 0 then (if d = prt 0 c then N else 0) else 0)
      + (if k = .bar then (if d = prt 2 c then 1 else 0) else 0) + (if k = .bar then (if d = prt 1 c then 1 else 0) else 0)
      + (if k = .bar then (if d = prt 0 c then 1 else 0) else 0)) := by
  rw [← owed_at, ← owed_at, ← owed_at, ← owed_at, ← owed_at, ← owed_at, ← owed_at, ← owed_at, ← owed_at]
  rfl

/-- How much of each kind of cell a device is promised. -/
def promised : Kd → ℕ
  | .bar => 3 | .ext => 3 | .snd _ => 0 | .rcv _ => N

theorem sum_one (r : Fin 3) (c : Dev nD) (n : ℕ) : (∑ d : Dev nD, if d = prt r c then n else 0) = n := by
  rw [Finset.sum_ite_eq' Finset.univ (prt r c) fun _ => n, if_pos (Finset.mem_univ _)]

theorem sum_o0 (k : Kd) (c : Dev nD) : (∑ d : Dev nD, o0 d (cell k c) ()) = promised k := by
  simp only [o0_at]
  rcases k with _ | _ | r | r
  · simp only [reduceCtorEq, if_true, if_false, Finset.sum_add_distrib, sum_one, Finset.sum_const_zero]; rfl
  · simp only [reduceCtorEq, if_true, if_false, Finset.sum_add_distrib, sum_one, Finset.sum_const_zero]; rfl
  · simp only [reduceCtorEq, if_false, Finset.sum_add_distrib, Finset.sum_const_zero]; rfl
  · have h (r' : Fin 3) : (Kd.rcv r = Kd.rcv r') = (r = r') := by simp
    simp only [h, reduceCtorEq, if_false, Finset.sum_add_distrib, Finset.sum_const_zero]
    have hs (r' : Fin 3) : (∑ d : Dev nD, if r = r' then (if d = prt r' c then N else 0) else 0) = if r = r' then N else 0 := by
      split
      · exact sum_one r' c N
      · exact Finset.sum_const_zero
    rw [hs, hs, hs]
    show _ = N
    revert r; decide +revert

theorem promise (k : Kd) (c : Dev nD) :
    tallyOn (cell k c) (launchCredit (Pipeline.owing o0) 0 (cell k c)) = (tallyAt (cell k c) () (promised k) : Due) := by
  unfold tallyAt; refine congrArg _ (Finsupp.ext fun u => ?_); cases u
  rw [Pipeline.launchCredit_owing, Finsupp.single_eq_same, sum_o0]

theorem creds_intro (c : Dev nD) : (Pipeline.launchCred o0 c : sProp 𝕄) ⊢ creds (F := F) c := by
  unfold Pipeline.launchCred
  refine (bigSep_subset (Finset.subset_univ ([sem .bar, sem .ext, sem (.rcv 0), sem (.rcv 1), sem (.rcv 2)] : List (SemLoc sig)).toFinset)).trans ?_
  rw [bigSep_eq_bigSepL _ (by decide)]
  show iprop(cred (tallyOn (cell .bar c) (launchCredit (Pipeline.owing o0) 0 (cell .bar c)))
    ∗ cred (tallyOn (cell .ext c) (launchCredit (Pipeline.owing o0) 0 (cell .ext c)))
    ∗ cred (tallyOn (cell (.rcv 0) c) (launchCredit (Pipeline.owing o0) 0 (cell (.rcv 0) c)))
    ∗ cred (tallyOn (cell (.rcv 1) c) (launchCredit (Pipeline.owing o0) 0 (cell (.rcv 1) c)))
    ∗ cred (tallyOn (cell (.rcv 2) c) (launchCredit (Pipeline.owing o0) 0 (cell (.rcv 2) c)))) ⊢ creds c
  rw [promise, promise, promise, promise, promise]
  exact BI.Entails.refl _

/-! ## The run -/

/-- The memory at the program's end. -/
def Vend (c : Dev nD) : Valuation τ sig (Elt F) := StableHlo.after hostOps1 (V' m c)

def T₀ (c : Dev nD) : sProp 𝕄 := (seg0 m).pre c
def Tₙ (c : Dev nD) : sProp 𝕄 := iprop(StableHlo.held (c : Thread nD τ) bufs (Vend m c) ∗ semVal (cell .bar c) 0)

/-- What a device has at launch beside the exchange's resources. -/
def bundle (c : Dev nD) : sProp 𝕄 :=
  iprop(StableHlo.held (c : Thread nD τ) bufs (fun b => m (c, b)) ∗ creds (F := F) c ∗ owes (c : Thread nD τ) (o0 c) ∅ ∗ ∃ r, prngReg c r)

theorem T₀_intro (κ : GSem nD τ sig → ℕ) (c : Dev nD) : iprop(records m κ ∗ (linear c ∗ bundle m c)) ⊢ T₀ m c := by
  show _ ⊢ iprop(StableHlo.held (c : Thread nD τ) bufs (fun b => m (c, b)) ∗ before m c)
  unfold bundle before Tk ow
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem sort_out (c : Dev nD) :
    iprop(unscopedBufs c (fun b => m ((c : Thread nD τ).loc b)) ∗ unscopedSems0 c
        ∗ owes (c : Thread nD τ) (o0 c) ∅ ∗ Pipeline.launchCred o0 c ∗ prngReg c (ρ c) ∗ G c)
      ⊢ (iprop(bundle m c ∗ (semVal (cell .bar c) 0 ∗ G c)) : sProp 𝕄) := by
  rw [show unscopedBufs c (fun b => m ((c : Thread nD τ).loc b)) = StableHlo.held (c : Thread nD τ) bufs (fun b => m (c, b)) from
    unscoped_held c fun b => m (c, b), unscopedSems_eq]
  unfold bundle
  iintro ⟨Hh, Hb, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hb] <;> iassumption

/-- The launch deals every device its part. -/
theorem deal :
    iprop((bigSep Finset.univ fun c : Dev nD => iprop(unscopedBufs c (fun b => m ((c : Thread nD τ).loc b)) ∗ unscopedSems0 c
          ∗ owes (c : Thread nD τ) (o0 c) ∅ ∗ Pipeline.launchCred o0 c ∗ prngReg c (ρ c) ∗ G c)) ∗ levAts L lv)
      ⊢ (|={Set.univ}=> bigSep Finset.univ (T₀ m) : sProp 𝕄) := by
  have hv : bigSep Finset.univ (fun c : Dev nD => (semVal (cell .bar c) 0 : sProp 𝕄)) ⊢ bigSep barCells (fun g => (semVal g 0 : sProp 𝕄)) :=
    Entails.of_eq (bigSep_map barEmb (Φ := fun g : GSem nD τ sig => (semVal g 0 : sProp 𝕄))).symm
  have hat : bigSep barCells (fun g => (atPos EX g 0 ∅ 0 : sProp 𝕄)) ⊢ bigSep Finset.univ (fun c : Dev nD => (atPos EX (cell .bar c) 0 ∅ 0 : sProp 𝕄)) :=
    Entails.of_eq (bigSep_map barEmb (Φ := fun g : GSem nD τ sig => (atPos EX g 0 ∅ 0 : sProp 𝕄)))
  refine (show _ ⊢ iprop((bigSep Finset.univ (bundle m)) ∗ (bigSep Finset.univ fun c : Dev nD => (semVal (cell .bar c) 0 : sProp 𝕄)) ∗ bigSep Finset.univ (G (F := F))) from ?_).trans ?_
  · have e : (bigSep Finset.univ fun c : Dev nD => iprop(unscopedBufs c (fun b => m ((c : Thread nD τ).loc b)) ∗ unscopedSems0 c
          ∗ owes (c : Thread nD τ) (o0 c) ∅ ∗ Pipeline.launchCred o0 c ∗ prngReg c (ρ c) ∗ G c))
        ⊢ (iprop((bigSep Finset.univ (bundle m)) ∗ (bigSep Finset.univ fun c : Dev nD => (semVal (cell .bar c) 0 : sProp 𝕄)) ∗ bigSep Finset.univ (G (F := F))) : sProp 𝕄) := by
      rw [← bigSep_sep', ← bigSep_sep']
      exact bigSep_mono fun c _ => sort_out m ρ c
    iintro ⟨H, -⟩
    iapply e $$ H
  rw [bigSep_G]
  iintro ⟨HB, Hv, Hu⟩
  imod (Rounds.fund_launch EX (rd (inp m)) cells_disjoint (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm)
    isplitl [Hat]; · iapply hat $$ Hat
    iapply (Entails.of_eq (bigSep_sep' _ _ _).symm)
    isplitl [Hopen]; · iapply opens_deal $$ Hopen
    iapply tokens_deal $$ Htok
  · iexact HB

/-! ## The memory at the end -/

theorem Vend_other (c : Dev nD) (b : Ref sig .tc) (h : Proc.devRef .tc b ≠ (Proc.devRef .tc main_v3 : DevRef τ sig)) :
    Vend m c (Proc.devRef .tc b) = V' m c (Proc.devRef .tc b) :=
  StableHlo.after_of_forall_not_mem (b := Proc.devRef .tc b) _ _ (List.forall_iff_forall_mem.mp (by
    simp only [hostOps1, List.Forall, StableHlo.reshape_writes, Finset.mem_singleton]
    exact h))
theorem Vend_arg0 (c : Dev nD) : Vend m c main_arg0 = m ((c : Thread nD τ).loc main_arg0) :=
  (Vend_other m c main_arg0 (by decide)).trans ((V'_arg0 m c).trans (V_main_arg0 m c))
theorem Vend_arg1 (c : Dev nD) : Vend m c main_arg1 = m ((c : Thread nD τ).loc main_arg1) :=
  (Vend_other m c main_arg1 (by decide)).trans ((V'_other m c main_arg1 (by decide)).trans (V_main_arg1 m c))
theorem Vend_arg2 (c : Dev nD) : Vend m c main_arg2 = m ((c : Thread nD τ).loc main_arg2) :=
  (Vend_other m c main_arg2 (by decide)).trans ((V'_other m c main_arg2 (by decide)).trans (V_main_arg2 m c))
theorem Vend_v3 (c : Dev nD) : Vend m c main_v3 = shapeCast S1024 (res (inp m) c) Facts₀.shapeCasts_S1024x1_S1024 := by
  rw [← V'_v2 m c]
  rfl

theorem bar_unscoped : ∀ s : SemLoc sig, s.isScoped .tc = false → s = sem .bar := by decide

end Cert.KernelIdeal.Run

end
-- ==== Proof.Whole.lean ====
/-
  The whole program: every execution ends, with the arguments unchanged, the result on every device, and every semaphore at zero.
-/
module

public import proofs.«01_k».proof.Proof.Deal

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What a device's memory and barrier counter say at the end. -/
def Done (c : Dev nD) (s : MemSt nD τ sig (Elt F)) : Prop :=
  (s.mem ((c : Thread nD τ).loc main_arg0) = Vend m c main_arg0
    ∧ s.mem ((c : Thread nD τ).loc main_arg1) = Vend m c main_arg1
    ∧ s.mem ((c : Thread nD τ).loc main_arg2) = Vend m c main_arg2
    ∧ s.mem ((c : Thread nD τ).loc main_v3) = Vend m c main_v3)
  ∧ s.sem (cell .bar c) = 0

set_option backward.isDefEq.respectTransparency.types false in
/-- From any memory with zero counters, every weakly fair execution of the program on the eight devices ends; at every final
    state each device's arguments are unchanged, its result buffer holds the exchanged result read as a row, and every semaphore
    counter of the machine is zero. -/
theorem run_main : θ_run defs (onTc (τ := τ) (main (F := F))) ⟨m, fun _ => 0, ρ⟩
    (fun r => (∀ c : Dev nD, r.2.mem ((c : Thread nD τ).loc main_v3) = shapeCast S1024 (res (inp m) c) Facts₀.shapeCasts_S1024x1_S1024
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := o0) (hL := L_of_ne) (G := G) (u₀ := u₀)
    (hu₀ := by
      iintro Hu
      ihave H := (u₀_split (F := F)) $$ Hu
      imodintro
      iexact H)
    (T₀ := T₀ m) (Tₙ := Tₙ m)
    (hch := by
      refine ⟨fun c => .rfl, fun c => reg_pre m c, fun c => reg_post m c, fun c => ?_⟩
      show iprop(StableHlo.held (c : Thread nD τ) bufs (Vend m c) ∗ after c)
        ⊢ iprop(Tₙ m c ∗ ∃ W, owes (c : Thread nD τ) (0 : CellTallies nD τ sig Unit) W)
      unfold after ow Tₙ Yk
      iintro ⟨Hh, Hb0, HO⟩
      isplitr [HO]
      · isplitl [Hh] <;> iassumption
      · iexact HO)
    (hinit := deal m ρ)
    (QY := Done m)
    (hfin := fun c s' => by
      dsimp only [Tₙ]; rw [bufs_list]
      iintro ⟨⟨⟨H0, H1, H2, -, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩,
          by simpa using hb⟩
      iexact HSI)
    (hQ := fun s h hs => ⟨fun c => by
        obtain ⟨⟨h0, h1, h2, h3⟩, -⟩ := h c
        exact ⟨h3.trans (Vend_v3 m c), h0.trans (Vend_arg0 m c), h1.trans (Vend_arg1 m c), h2.trans (Vend_arg2 m c)⟩,
      sem_eq_zero hs fun c sm hsm => by
        obtain rfl := bar_unscoped sm hsm
        exact (h c).2⟩)

end Cert.KernelIdeal.Run

end
-- ==== Proof.Frames.lean ====
/-
  The frames: each program ends without fault, leaves its arguments unchanged and every semaphore counter at zero.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Whole
public import Idealize.ShloMosaic.Adequacy

@[expose] public section

noncomputable section

namespace Cert.Proof

open Idealize.ShloMosaic Idealize.SL.Sem

/-- The kernel and its idealization have one body. -/
theorem same_bodies : Cert.Kernel.defs₀ (F := Bits) = Cert.KernelIdeal.defs₀ (F := Bits) := by
  unfold Cert.Kernel.defs₀ Cert.KernelIdeal.defs₀
  refine congrArg Defs.onTc (funext fun ℓ => funext fun a => ?_)
  obtain ⟨_ | n, h⟩ := ℓ
  · obtain ⟨t, s⟩ := a
    rfl
  · exact absurd h (Nat.not_lt.2 (Nat.le_add_left _ _))
theorem same_defs : Cert.Kernel.defs (F := Bits) = Cert.KernelIdeal.defs (F := Bits) :=
  congrArg (Pipeline.defs Cert.KernelIdeal.pcfgs) same_bodies

/-- The kernel's frame: its text is the idealized kernel's, so the run for any float values is read at the words. -/
theorem frame_kernel : Cert.quiescent_Kernel := fun m ρ _ => by
  rw [same_defs]
  exact (θ_run Cert.KernelIdeal.defs _ _).mono (fun _ h => ⟨fun c => (h.1 c).2, h.2⟩) (Cert.KernelIdeal.Run.run_main (F := Bits) m ρ)

/-- The idealized kernel's frame. -/
theorem frame_ideal : Cert.quiescent_KernelIdeal := fun m ρ _ =>
  (θ_run Cert.KernelIdeal.defs _ _).mono (fun _ h => ⟨fun c => (h.1 c).2, h.2⟩) (Cert.KernelIdeal.Run.run_main (F := Ideal) m ρ)

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Loss.lean ====
/-
  The arithmetic of the loss, with no program in it: sums and products of finite extended reals are finite, the maximum of
  finitely many reals is a real, the loss taken through that maximum is the loss taken directly, and 32768 columns counted
  one by one are the columns counted device by device, tile by tile, lane by lane.
-/
module

public import Idealize.ShloMosaic.PureOps.Ideal

@[expose] public section

noncomputable section

namespace Cert.Loss

open Idealize.ShloMosaic

/-- A finite sum of reals, taken among the extended reals, is their real sum. -/
theorem coe_sum {ι : Type} (s : Finset ι) (f : ι → ℝ) : (∑ v ∈ s, (f v : EReal)) = ((∑ v ∈ s, f v : ℝ) : EReal) := by
  classical
  induction s using Finset.induction_on with
  | empty => simp
  | insert a s ha ih => rw [Finset.sum_insert ha, Finset.sum_insert ha, ih, EReal.coe_add]

/-- An extended real whose absolute value lies below infinity is a real. -/
theorem real_of_abs_lt (a : EReal) (h : max a (-a) < ⊤) : ∃ r : ℝ, a = r := by
  induction a using EReal.rec with
  | bot => simp at h
  | top => simp at h
  | coe r => exact ⟨r, rfl⟩

/-- An inner product of reals is a real. -/
theorem real_dot {n : Nat} (a b : Fin n → EReal) (ha : ∀ k, ∃ r : ℝ, a k = r) (hb : ∀ k, ∃ r : ℝ, b k = r) :
    ∃ r : ℝ, (∑ k, a k * b k) = r := by
  choose f hf using ha
  choose g hg using hb
  refine ⟨∑ k, f k * g k, ?_⟩
  rw [← coe_sum]
  exact Finset.sum_congr rfl fun k _ => by rw [hf, hg, EReal.coe_mul]

/-- The maximum of one or more reals, folded from minus infinity, is a real. -/
theorem real_max {ι : Type} [Fintype ι] [Nonempty ι] (r : ι → ℝ) :
    ∃ M : ℝ, Finset.univ.fold max (⊥ : EReal) (fun v => (r v : EReal)) = M := by
  have h1 : ∀ s : Finset ι, s.fold max (⊥ : EReal) (fun v => (r v : EReal)) < ⊤ := by
    intro s
    rw [Finset.fold_max_lt]
    exact ⟨bot_lt_top, fun x _ => EReal.coe_lt_top _⟩
  have h2 : ⊥ < Finset.univ.fold max (⊥ : EReal) (fun v => (r v : EReal)) := by
    rw [Finset.lt_fold_max]
    exact Or.inr ⟨Classical.arbitrary ι, Finset.mem_univ _, EReal.bot_lt_coe _⟩
  exact ⟨_, (EReal.coe_toReal (h1 _).ne h2.ne').symm⟩

/-- Log-sum-exp of reals, shifted by any real `M`, is log-sum-exp. -/
theorem lse_shift {ι : Type} [Fintype ι] [Nonempty ι] (r : ι → ℝ) (M : ℝ) :
    (M : EReal) + Ideal.log (∑ v, Ideal.exp ((r v : EReal) - M)) = Ideal.log (∑ v, Ideal.exp (r v : EReal)) := by
  have e1 : ∀ v, Ideal.exp ((r v : EReal) - M) = ((Real.exp (r v) * Real.exp (-M) : ℝ) : EReal) := fun v => by
    rw [← EReal.coe_sub, Ideal.exp_coe, ← Real.exp_add, sub_eq_add_neg]
  have hS : 0 < ∑ v, Real.exp (r v) := Finset.sum_pos (fun v _ => Real.exp_pos _) Finset.univ_nonempty
  rw [Finset.sum_congr rfl fun v _ => e1 v, Finset.sum_congr rfl fun v _ => Ideal.exp_coe (r v), coe_sum, coe_sum,
    ← Finset.sum_mul, Ideal.log_coe, Ideal.log_coe, if_neg (not_le.mpr hS), if_neg (not_le.mpr (mul_pos hS (Real.exp_pos _))),
    Real.log_mul hS.ne' (Real.exp_pos _).ne', Real.log_exp, ← EReal.coe_add]
  congr 1
  ring

/-- The loss of finite logits read through their maximum is the loss read directly. -/
theorem loss_eq {n : Nat} (L : Fin (n + 1) → EReal) (hL : ∀ v, ∃ r : ℝ, L v = r) (y : EReal) :
    (Finset.univ.fold max (⊥ : EReal) L + Ideal.log (∑ v, Ideal.exp (L v - Finset.univ.fold max (⊥ : EReal) L))) - y
      = Ideal.log (∑ v, Ideal.exp (L v)) - y := by
  choose r hr using hL
  obtain rfl : L = fun v => (r v : EReal) := funext hr
  obtain ⟨M, hM⟩ := real_max r
  rw [hM, lse_shift]

/-- The columns taken device by device (8), tile by tile (4), lane by lane (1024) are all the columns, once each. -/
theorem sum_columns (g : Nat → EReal) :
    ∑ d : Fin 8, ∑ t : Fin 4, ∑ j : Fin 1024, g (4096 * d.val + 1024 * t.val + j.val) = ∑ v : Fin 32768, g v.val := by
  have e1 : ∀ d : Fin 8, ∑ t : Fin 4, ∑ j : Fin 1024, g (4096 * d.val + 1024 * t.val + j.val)
      = ∑ q : Fin (4 * 1024), g (4096 * d.val + q.val) := fun d => by
    rw [← Equiv.sum_comp (finProdFinEquiv (m := 4) (n := 1024)), Fintype.sum_prod_type]
    refine Finset.sum_congr rfl fun t _ => Finset.sum_congr rfl fun j _ => congrArg g ?_
    simp only [finProdFinEquiv_apply_val]
    omega
  have e2 : ∑ v : Fin (8 * (4 * 1024)), g v.val = ∑ d : Fin 8, ∑ q : Fin (4 * 1024), g (4096 * d.val + q.val) := by
    rw [← Equiv.sum_comp (finProdFinEquiv (m := 8) (n := 4 * 1024)), Fintype.sum_prod_type]
    refine Finset.sum_congr rfl fun t _ => Finset.sum_congr rfl fun j _ => congrArg g ?_
    simp only [finProdFinEquiv_apply_val]
    omega
  rw [Finset.sum_congr rfl fun d _ => e1 d]
  exact e2.symm

end Cert.Loss

end
-- ==== Proof.KernelValue.lean ====
/-
  What the kernel returns for one token, as extended-real arithmetic over the whole arrays: the logarithm of the sum over
  all columns of the exponentials of the logits, less the logit the label names.
-/
module

public import proofs.«01_k».proof.Proof.Vals
public import proofs.«01_k».proof.Proof.Loss
public import Idealize.ShloMosaic.Lib.Pointwise

@[expose] public section

noncomputable section

namespace Cert.KernelIdeal.Run

open Idealize.ShloMosaic
open Cert.KernelIdeal Cert.KernelIdeal.Gen

/-! ## One tile -/

/-- What the kernel adds to its sum of exponentials for a tile. -/
def addS (s : Col Ideal) (x : FVec Ideal S1024x2048 .f32) (w : Vec Ideal S1x2048x1024 .f32) : Col Ideal := k0_pay6 s x w

/-- What the kernel adds to its label logit for a tile whose first column is number `wd`. -/
def addL (wd : BitVec 32) (l : Col Ideal) (x : FVec Ideal S1024x2048 .f32) (w : Vec Ideal S1x2048x1024 .f32) (lab : Vec Ideal S1024x1 .i32) : Col Ideal :=
  k0_pay18 io l (k0_pay5 x w) (shapeCast S1024x1 lab Facts₀.shapeCasts_S1024x1_S1024x1) wd

theorem addS_apply (s : Col Ideal) (x : FVec Ideal S1024x2048 .f32) (w : Vec Ideal S1x2048x1024 .f32) (i : Fin 1024) :
    addS s x w (ix2 i (0 : Fin 1)) = s (ix2 i (0 : Fin 1)) + ∑ j : Fin 1024, Ideal.exp (∑ k : Fin 2048, x (ix2 i k) * w (ix3 (0 : Fin 1) k j)) := by
  unfold addS k0_pay6 k0_pay5
  pointwise

theorem addL_apply (wd : BitVec 32) (l : Col Ideal) (x : FVec Ideal S1024x2048 .f32) (w : Vec Ideal S1x2048x1024 .f32)
    (lab : Vec Ideal S1024x1 .i32) (i : Fin 1024) :
    addL wd l x w lab (ix2 i (0 : Fin 1)) = l (ix2 i (0 : Fin 1)) + ∑ j : Fin 1024,
      Scalar.select (IntOp.cmpi .eq (BitVec.ofNat 32 j.val) (IntOp.subi (lab (ix2 i (0 : Fin 1))) wd))
        (∑ k : Fin 2048, x (ix2 i k) * w (ix3 (0 : Fin 1) k j)) (0 : EReal) := by
  unfold addL k0_pay18 k0_pay5 io
  pointwise

variable (I : Dev nD → Inp Ideal)

theorem pay4_eq (x : FVec Ideal S1024x2048 .f32) : k0_pay4 x = x := by unfold k0_pay4; exact shapeCast_self _ _

theorem sD_eq (c : Dev nD) : sD I c = addS (addS (addS (addS k0_pay2 (I c).x (wT I c 0)) (I c).x (wT I c 1)) (I c).x (wT I c 2)) (I c).x (wT I c 3) := by
  have e : sD I c = addS (addS (addS (addS k0_pay2 (k0_pay4 (I c).x) (wT I c 0)) (k0_pay4 (I c).x) (wT I c 1)) (k0_pay4 (I c).x) (wT I c 2)) (k0_pay4 (I c).x) (wT I c 3) := rfl
  rw [e, pay4_eq]

theorem lD_eq (c : Dev nD) : lD I c =
    addL (Scalar.addi (w13 c) 3072#32) (addL (Scalar.addi (w13 c) 2048#32) (addL (Scalar.addi (w13 c) 1024#32) (addL (Scalar.addi (w13 c) 0#32) k0_pay3
      (I c).x (wT I c 0) (I c).lab) (I c).x (wT I c 1) (I c).lab) (I c).x (wT I c 2) (I c).lab) (I c).x (wT I c 3) (I c).lab := by
  have e : lD I c =
    addL (Scalar.addi (w13 c) 3072#32) (addL (Scalar.addi (w13 c) 2048#32) (addL (Scalar.addi (w13 c) 1024#32) (addL (Scalar.addi (w13 c) 0#32) k0_pay3
      (k0_pay4 (I c).x) (wT I c 0) (I c).lab) (k0_pay4 (I c).x) (wT I c 1) (I c).lab) (k0_pay4 (I c).x) (wT I c 2) (I c).lab) (k0_pay4 (I c).x) (wT I c 3) (I c).lab := rfl
  rw [e, pay4_eq]

/-! ## The exchanges -/

theorem nx_apply (r : Fin 3) (f : Dev nD → Col Ideal) (c : Dev nD) (i : Fin 1024) :
    nx r f c (ix2 i (0 : Fin 1)) = f c (ix2 i (0 : Fin 1)) + f (prt r c) (ix2 i (0 : Fin 1)) := by
  unfold nx k0_pay21 row
  pointwise
  rfl

/-- After the three exchanges every device holds the sum over all eight. -/
theorem nx3_apply (f : Dev nD → Col Ideal) (c : Dev nD) (i : Fin 1024) :
    nx 2 (nx 1 (nx 0 f)) c (ix2 i (0 : Fin 1)) = ∑ d : Fin 8, f d (ix2 i (0 : Fin 1)) := by
  simp only [nx_apply, Fin.sum_univ_eight]
  generalize hg : (fun d : Dev nD => f d (ix2 i (0 : Fin 1))) = g
  have hg' : ∀ d, f d (ix2 i (0 : Fin 1)) = g d := fun d => congrFun hg d
  simp only [hg']
  match c with
  | 0 => show ((g 0 + g 4) + (g 2 + g 6)) + ((g 1 + g 5) + (g 3 + g 7)) = _; ac_rfl
  | 1 => show ((g 1 + g 5) + (g 3 + g 7)) + ((g 0 + g 4) + (g 2 + g 6)) = _; ac_rfl
  | 2 => show ((g 2 + g 6) + (g 0 + g 4)) + ((g 3 + g 7) + (g 1 + g 5)) = _; ac_rfl
  | 3 => show ((g 3 + g 7) + (g 1 + g 5)) + ((g 2 + g 6) + (g 0 + g 4)) = _; ac_rfl
  | 4 => show ((g 4 + g 0) + (g 6 + g 2)) + ((g 5 + g 1) + (g 7 + g 3)) = _; ac_rfl
  | 5 => show ((g 5 + g 1) + (g 7 + g 3)) + ((g 4 + g 0) + (g 6 + g 2)) = _; ac_rfl
  | 6 => show ((g 6 + g 2) + (g 4 + g 0)) + ((g 7 + g 3) + (g 5 + g 1)) = _; ac_rfl
  | 7 => show ((g 7 + g 3) + (g 5 + g 1)) + ((g 6 + g 2) + (g 4 + g 0)) = _; ac_rfl

/-- The stored column: the logarithm of the devices' sums together, less their label logits together. -/
theorem res_apply (c : Dev nD) (i : Fin 1024) :
    res I c (ix2 i (0 : Fin 1)) = Ideal.log (∑ d : Fin 8, sD I d (ix2 i (0 : Fin 1))) - ∑ d : Fin 8, lD I d (ix2 i (0 : Fin 1)) := by
  rw [← nx3_apply (sD I) c i, ← nx3_apply (lD I) c i, nx_apply 2 (nx 1 (nx 0 (lD I)))]
  unfold res k0_pay1 row
  pointwise
  rfl

/-! ## A tile's logits over the whole array -/

variable (X : FVec Ideal S1024x2048 .f32) (W : FVec Ideal ⟨2, ![2048, 32768]⟩ .f32)

/-- Token `i`'s logit at column number `n` of the whole array (zero past its end). -/
def lg (i : Fin 1024) (n : Nat) : EReal := if h : n < 32768 then ∑ k : Fin 2048, X (ix2 i k) * W (ix2 k (⟨n, h⟩ : Fin 32768)) else 0

/-- A device's place along mesh axis x. -/
theorem meshLin_x (c : Dev nD) : Layout.meshLin [2, 2, 2] c.val [0] = c.val / 4 := by revert c; decide

/-- The first column of device `c`'s half of the whole array, and its entries there. -/
theorem half_apply (c : Dev nD) (k : Fin 2048) (n : Fin 16384) (h : 16384 * (c.val / 4) + n.val < 32768) :
    (Layout.blockN ⟨2, ![2048, 16384]⟩ ⟨2, ![2048, 32768]⟩ (Layout.meshBlock [2, 2, 2] ![[], [0]] c) W) (ix2 k n)
      = W (ix2 k (⟨16384 * (c.val / 4) + n.val, h⟩ : Fin 32768)) := by
  have hc : Layout.meshLin [2, 2, 2] c.val [0] = c.val / 4 := meshLin_x c
  rw [Layout.blockN_apply]
  refine congrArg W (funext fun a => Fin.ext ?_)
  rw [Layout.TilesN.idx_val]
  match a with
  | ⟨0, _⟩ => show 0 * 2048 + k.val = k.val; omega
  | ⟨1, _⟩ => show Layout.meshLin [2, 2, 2] c.val [0] * 16384 + n.val = 16384 * (c.val / 4) + n.val; rw [hc]; omega

theorem wT_apply (c : Dev nD) (t : Fin 4) (k : Fin 2048) (j : Fin 1024) (h : 4096 * c.val + 1024 * t.val + j.val < 32768)
    (hw : (I c).w = Layout.blockN ⟨2, ![2048, 16384]⟩ ⟨2, ![2048, 32768]⟩ (Layout.meshBlock [2, 2, 2] ![[], [0]] c) W) :
    wT I c t (ix3 (0 : Fin 1) k j) = W (ix2 k (⟨4096 * c.val + 1024 * t.val + j.val, h⟩ : Fin 32768)) := by
  have hc : c.val < 8 := c.isLt
  have ht : t.val < 4 := t.isLt
  have hj : j.val < 1024 := j.isLt
  have ho : k0_off1 c (BitVec.ofNat 32 (1024 * t.val)) = ![0, 8192 * ((c.val / 2) % 2) + 4096 * (c.val % 2) + 1024 * t.val] := k0_off1_eq c t
  have hn : 8192 * ((c.val / 2) % 2) + 4096 * (c.val % 2) + 1024 * t.val + j.val < 16384 := by omega
  have e1 : wT I c t (ix3 (0 : Fin 1) k j) = (I c).w (ix2 k (⟨8192 * ((c.val / 2) % 2) + 4096 * (c.val % 2) + 1024 * t.val + j.val, hn⟩ : Fin 16384)) := by
    unfold wT
    refine (ValueIdx.shapeCast_ab_1ab_apply _ tileCasts (0 : Fin 1) k j).trans ?_
    refine congrArg (I c).w (funext fun a => Fin.ext ?_)
    match a with
    | ⟨0, _⟩ =>
      show k0_off1 c (BitVec.ofNat 32 (1024 * t.val)) 0 + 1 * k.val = k.val
      rw [ho]; show 0 + 1 * k.val = k.val; omega
    | ⟨1, _⟩ =>
      show k0_off1 c (BitVec.ofNat 32 (1024 * t.val)) 1 + 1 * j.val = _
      rw [ho]; show 8192 * ((c.val / 2) % 2) + 4096 * (c.val % 2) + 1024 * t.val + 1 * j.val = 8192 * ((c.val / 2) % 2) + 4096 * (c.val % 2) + 1024 * t.val + j.val; omega
  rw [e1, hw, half_apply W c k _ (by show 16384 * (c.val / 4) + (8192 * ((c.val / 2) % 2) + 4096 * (c.val % 2) + 1024 * t.val + j.val) < 32768; omega)]
  refine congrArg W (congrArg (ix2 k) (Fin.ext ?_))
  show 16384 * (c.val / 4) + (8192 * ((c.val / 2) % 2) + 4096 * (c.val % 2) + 1024 * t.val + j.val) = 4096 * c.val + 1024 * t.val + j.val
  omega

/-- The kernel's first column number, as a number. -/
theorem w13_toNat (c : Dev nD) : (w13 c).toNat = 4096 * c.val := by revert c; decide

theorem word_tile (c : Dev nD) (t : Fin 4) : (Scalar.addi (w13 c) (BitVec.ofNat 32 (1024 * t.val))).toNat = 4096 * c.val + 1024 * t.val := by
  revert c t; decide

/-- The mask: lane `j` of a tile starting at column `b` is the label's exactly when its column number is the label's. -/
theorem mask_apply (wd lab : BitVec 32) (b q j : Nat) (hw : wd.toNat = b) (hq : lab.toNat = q) (hb : b + 1024 ≤ 32768) (hj : j < 1024)
    (hql : q < 32768) (y : EReal) :
    Scalar.select (IntOp.cmpi .eq (BitVec.ofNat 32 j) (IntOp.subi lab wd)) y (0 : EReal) = if b + j = q then y else 0 := by
  have hiff : BitVec.ofNat 32 j = lab - wd ↔ b + j = q := by
    rw [← BitVec.toNat_inj, BitVec.toNat_ofNat, BitVec.toNat_sub, hw, hq]
    omega
  unfold IntOp.cmpi IntOp.subi
  by_cases h : b + j = q
  · rw [if_pos h, hiff.mpr h]; simp [Scalar.select]
  · rw [if_neg h]
    have : ¬ BitVec.ofNat 32 j = lab - wd := fun e => h (hiff.mp e)
    have hb' : (BitVec.ofNat 32 j == lab - wd) = false := beq_eq_false_iff_ne.mpr this
    simp [Scalar.select, hb']

/-! ## A device's totals -/

variable (hx : ∀ c, (I c).x = X)
  (hw : ∀ c, (I c).w = Layout.blockN ⟨2, ![2048, 16384]⟩ ⟨2, ![2048, 32768]⟩ (Layout.meshBlock [2, 2, 2] ![[], [0]] c) W)

include hx hw in
/-- A tile's logit is the whole array's at the tile's column. -/
theorem tile_logit (c : Dev nD) (t : Fin 4) (i j : Fin 1024) :
    (∑ k : Fin 2048, (I c).x (ix2 i k) * wT I c t (ix3 (0 : Fin 1) k j)) = lg X W i (4096 * c.val + 1024 * t.val + j.val) := by
  have hc : c.val < 8 := c.isLt
  have ht : t.val < 4 := t.isLt
  have hj : j.val < 1024 := j.isLt
  have h : 4096 * c.val + 1024 * t.val + j.val < 32768 := by omega
  unfold lg
  rw [dif_pos h, hx c]
  exact Finset.sum_congr rfl fun k _ => by rw [wT_apply I W c t k j h (hw c)]

include hx hw in
/-- A device's sum of exponentials. -/
theorem sD_apply (c : Dev nD) (i : Fin 1024) :
    sD I c (ix2 i (0 : Fin 1)) = ∑ t : Fin 4, ∑ j : Fin 1024, Ideal.exp (lg X W i (4096 * c.val + 1024 * t.val + j.val)) := by
  have z : (k0_pay2 : Col Ideal) (ix2 i (0 : Fin 1)) = 0 := by unfold k0_pay2; pointwise
  rw [sD_eq, addS_apply, addS_apply, addS_apply, addS_apply, z, zero_add, Fin.sum_univ_four]
  simp only [tile_logit I X W hx hw]

include hx hw in
/-- A device's label logit: the logit the label names, if the column is the device's, and zero otherwise. -/
theorem lD_apply (c : Dev nD) (i : Fin 1024) (q : Nat) (hq : ((I c).lab (ix2 i (0 : Fin 1))).toNat = q) (hql : q < 32768) :
    lD I c (ix2 i (0 : Fin 1)) = ∑ t : Fin 4, ∑ j : Fin 1024,
      if 4096 * c.val + 1024 * t.val + j.val = q then lg X W i (4096 * c.val + 1024 * t.val + j.val) else 0 := by
  have hc : c.val < 8 := c.isLt
  have z : (k0_pay3 : Col Ideal) (ix2 i (0 : Fin 1)) = 0 := by unfold k0_pay3; pointwise
  have hwd : ∀ t : Fin 4, (Scalar.addi (w13 c) (BitVec.ofNat 32 (1024 * t.val))).toNat = 4096 * c.val + 1024 * t.val := word_tile c
  have step : ∀ (t : Fin 4) (j : Fin 1024),
      Scalar.select (IntOp.cmpi .eq (BitVec.ofNat 32 j.val) (IntOp.subi ((I c).lab (ix2 i (0 : Fin 1))) (Scalar.addi (w13 c) (BitVec.ofNat 32 (1024 * t.val)))))
        (∑ k : Fin 2048, (I c).x (ix2 i k) * wT I c t (ix3 (0 : Fin 1) k j)) (0 : EReal)
      = if 4096 * c.val + 1024 * t.val + j.val = q then lg X W i (4096 * c.val + 1024 * t.val + j.val) else 0 := fun t j => by
    have ht : t.val < 4 := t.isLt
    rw [mask_apply _ _ _ q j.val (hwd t) hq (by omega) j.isLt hql, tile_logit I X W hx hw]
  rw [lD_eq, addL_apply, addL_apply, addL_apply, addL_apply, z, zero_add, Fin.sum_univ_four]
  exact congrArg₂ (· + ·) (congrArg₂ (· + ·) (congrArg₂ (· + ·) (Finset.sum_congr rfl fun j _ => step 0 j)
    (Finset.sum_congr rfl fun j _ => step 1 j)) (Finset.sum_congr rfl fun j _ => step 2 j)) (Finset.sum_congr rfl fun j _ => step 3 j)

include hx hw in
/-- The kernel's result for token `i` on any device: the logarithm of the sum over all columns, less the label's logit. -/
theorem res_value (c : Dev nD) (i : Fin 1024) (q : Fin 32768) (hq : ∀ d, ((I d).lab (ix2 i (0 : Fin 1))).toNat = q.val) :
    res I c (ix2 i (0 : Fin 1)) = Ideal.log (∑ v : Fin 32768, Ideal.exp (∑ k : Fin 2048, X (ix2 i k) * W (ix2 k v)))
      - ∑ k : Fin 2048, X (ix2 i k) * W (ix2 k q) := by
  have hl : ∀ v : Fin 32768, lg X W i v.val = ∑ k : Fin 2048, X (ix2 i k) * W (ix2 k v) := fun v => by
    unfold lg; rw [dif_pos v.isLt]
  rw [res_apply]
  have e1 : ∑ d : Fin 8, sD I d (ix2 i (0 : Fin 1)) = ∑ v : Fin 32768, Ideal.exp (lg X W i v.val) :=
    (Finset.sum_congr rfl fun d _ => sD_apply I X W hx hw d i).trans (Loss.sum_columns fun n => Ideal.exp (lg X W i n))
  have e2 : ∑ d : Fin 8, lD I d (ix2 i (0 : Fin 1)) = ∑ v : Fin 32768, if v.val = q.val then lg X W i v.val else 0 :=
    (Finset.sum_congr rfl fun d _ => lD_apply I X W hx hw d i q.val (hq d) q.isLt).trans
      (Loss.sum_columns fun n => if n = q.val then lg X W i n else 0)
  have e3 : (∑ v : Fin 32768, if v.val = q.val then lg X W i v.val else 0) = lg X W i q.val := by
    rw [Finset.sum_eq_single q (fun v _ hv => if_neg fun h => hv (Fin.ext h)) (fun h => absurd (Finset.mem_univ _) h), if_pos rfl]
  rw [e1, e2, e3, hl q]
  simp only [hl]

end Cert.KernelIdeal.Run

end
-- ==== Proof.RefValue.lean ====
/-
  What the reference returns for one token, as extended-real arithmetic over the argument arrays: log-sum-exp of the token's
  logits, taken through their maximum, less the logit its label names.
-/
module

public import proofs.«01_k».proof.Proof.Gen.ReferenceIdeal.Run
public import Idealize.ShloMosaic.Lib.Pointwise
public import Idealize.ShloMosaic.Lib.StackMember

@[expose] public section

noncomputable section

namespace Cert.ReferenceIdeal.Value

open Idealize.ShloMosaic
open Cert.ReferenceIdeal Cert.ReferenceIdeal.Gen

/-- The gather of one element per token: its row and its column are read signed off the index pair and clamped. -/
theorem gather_pair (x : FVec Ideal S1024x32768 .f32) (idx : IVec S1024x2 32) (i : Fin 1024) :
    Host.gather gather_S1024x32768_S1024x2_S1024_n_01_n_n_01_1_11 x idx (ix1 i)
      = x (ix2 (⟨min (idx (ix2 i (0 : Fin 2))).toInt.toNat 1023, by omega⟩ : Fin 1024)
          (⟨min (idx (ix2 i (1 : Fin 2))).toInt.toNat 32767, by omega⟩ : Fin 32768)) := by
  unfold Host.gather
  refine congrArg x (funext fun a => Fin.ext ?_)
  set G := gather_S1024x32768_S1024x2_S1024_n_01_n_n_01_1_11 with hG
  show G.start (ix1 i) idx a + G.batchCoord (ix1 i) a + G.offCoord (ix1 i) a = _
  rw [GatherDims.batchCoord_eq_zero _ _ _ List.not_mem_nil,
    GatherDims.offCoord_eq_zero _ _ _ (fun h => ((GatherDims.mem_sKept _ _).mp h).1 (by show a ∈ [(0 : Fin 2), 1]; revert a; decide))]
  have hm : a ∈ G.startIndexMap := by show a ∈ [(0 : Fin 2), 1]; revert a; decide
  unfold GatherDims.start
  rw [dif_pos hm]
  match a with
  | ⟨0, _⟩ =>
    have hs : G.siIdx (ix1 i) ⟨List.idxOf (⟨0, by decide⟩ : Fin 2) G.startIndexMap, List.idxOf_lt_length_iff.2 hm⟩ = ix2 i (0 : Fin 2) := by
      funext b; refine Fin.ext ?_
      match b with
      | ⟨0, _⟩ => rfl
      | ⟨1, _⟩ => rfl
    rw [hs]; rfl
  | ⟨1, _⟩ =>
    have hs : G.siIdx (ix1 i) ⟨List.idxOf (⟨1, by decide⟩ : Fin 2) G.startIndexMap, List.idxOf_lt_length_iff.2 hm⟩ = ix2 i (1 : Fin 2) := by
      funext b; refine Fin.ext ?_
      match b with
      | ⟨0, _⟩ => rfl
      | ⟨1, _⟩ => rfl
    rw [hs]; rfl

/-- The largest logit of each token. -/
def mx (L : FVec Ideal S1024x32768 .f32) : FVec Ideal S1024 .f32 :=
  Host.reduce FloatOps.maximumf L (constant S_ .f32 0xFF800000#32) reducesTo_S1024x32768_S1024_d1 h_S_

/-- Log-sum-exp of each token's logits, through the largest. -/
def lse (L : FVec Ideal S1024x32768 .f32) : FVec Ideal S1024 .f32 :=
  shapeCast S1024 (addf (broadcastInDim S1024x1 ![0] bcast_S1024_S1024x1_0 (mx L)) (Host.log (broadcastInDim S1024x1 ![0] bcast_S1024_S1024x1_0 (Host.reduceAdd (Host.exp (subf L (broadcastInDim S1024x32768 ![0, 1] bcast_S1024x1_S1024x32768_0_1 (broadcastInDim S1024x1 ![0] bcast_S1024_S1024x1_0 (mx L))))) (constant S_ .f32 0x00000000#32) reducesTo_S1024x32768_S1024_d1 h_S_)))) shapeCasts_S1024x1_S1024

/-- A vector of indices, the negative ones counted from the end of an axis of `n` places, as a column. -/
def wrapped (n : BitVec 32) (v : IVec S1024 32) : IVec S1024x1 32 :=
  broadcastInDim S1024x1 ![0] bcast_S1024_S1024x1_0 (select (cmpi .slt v (broadcastInDim S1024 ![] bcast_S_S1024 (constantI S_ 32 0#32))) (addi v (broadcastInDim S1024 ![] bcast_S_S1024 (constantI S_ 32 n))) v)

/-- Two columns of indices side by side. -/
def pairs (a b : IVec S1024x1 32) : IVec S1024x2 32 :=
  concatenate S1024x2 1 [⟨S1024x1, a⟩, ⟨S1024x1, b⟩] concatenates_S1024x1_S1024x1_S1024x2_d1

/-- The reference's result as one function of its argument arrays. -/
def out (x : FVec Ideal S1024x2048 .f32) (w : FVec Ideal S2048x32768 .f32) (lab : IVec S1024 32) : FVec Ideal S1024 .f32 :=
  subf (lse (Host.dotGeneral dot_S1024x2048_S2048x32768_S1024x32768_1_0_0_1_n_n none x w))
    (Host.gather gather_S1024x32768_S1024x2_S1024_n_01_n_n_01_1_11 (Host.dotGeneral dot_S1024x2048_S2048x32768_S1024x32768_1_0_0_1_n_n none x w)
      (pairs (wrapped 1024#32 (iotaInDim S1024 32 0)) (wrapped 32768#32 lab)))

/-- Minus infinity's bit pattern. -/
theorem neg_inf : Ideal.ofBits .f32 0xFF800000#32 = (⊥ : EReal) := by
  simp [Ideal.ofBits, Ideal.ieee]

/-- A word whose number is small is not negative, and reads signed as that number. -/
theorem word_small (n : Nat) (b e : BitVec 32) (hb : b.toNat = n) (hn : n < 2 ^ 31) :
    (Scalar.select (IntOp.cmpi CmpIPredicate.slt b 0#32) e b).toInt.toNat = n := by
  have hi : b.toInt = (n : Int) := by rw [BitVec.toInt_eq_toNat_of_lt (by omega), hb]
  have hc : IntOp.cmpi CmpIPredicate.slt b 0#32 = 0#1 := by
    unfold IntOp.cmpi
    have : b.slt 0#32 = false := by rw [BitVec.slt_eq_decide, hi]; simp
    simp [this]
  rw [hc]
  show b.toInt.toNat = n
  rw [hi]; rfl

theorem dot_apply (x : FVec Ideal S1024x2048 .f32) (w : FVec Ideal S2048x32768 .f32) (i : Fin 1024) (v : Fin 32768) :
    Host.dotGeneral dot_S1024x2048_S2048x32768_S1024x32768_1_0_0_1_n_n none x w (ix2 i v) = ∑ k : Fin 2048, x (ix2 i k) * w (ix2 k v) :=
  StackMember.dotGeneral_plain_apply none x w i v

theorem mx_apply (L : FVec Ideal S1024x32768 .f32) (i : Fin 1024) :
    mx L (ix1 i) = Finset.univ.fold max (⊥ : EReal) (fun v : Fin 32768 => L (ix2 i v)) := by
  unfold mx
  pointwise
  rw [neg_inf]

/-- A column read as a vector. -/
theorem cast_apply (v : FVec Ideal S1024x1 .f32) (i : Fin 1024) : shapeCast S1024 v shapeCasts_S1024x1_S1024 (ix1 i) = v (ix2 i (0 : Fin 1)) := by
  pointwise

/-- A vector read as a column. -/
theorem col_apply (v : FVec Ideal S1024 .f32) (i : Fin 1024) : broadcastInDim S1024x1 ![0] bcast_S1024_S1024x1_0 v (ix2 i (0 : Fin 1)) = v (ix1 i) := by
  pointwise

/-- A column repeated along the logits' rows. -/
theorem wide_apply (v : FVec Ideal S1024x1 .f32) (i : Fin 1024) (q : Fin 32768) :
    broadcastInDim S1024x32768 ![0, 1] bcast_S1024x1_S1024x32768_0_1 v (ix2 i q) = v (ix2 i (0 : Fin 1)) := by
  pointwise

/-- The sum of each row. -/
theorem rowsum_apply (A : FVec Ideal S1024x32768 .f32) (i : Fin 1024) :
    Host.reduceAdd A (constant S_ .f32 0x00000000#32) reducesTo_S1024x32768_S1024_d1 h_S_ (ix1 i) = ∑ v : Fin 32768, A (ix2 i v) := by
  pointwise

/-- A maximum and the logarithm of a sum, added token by token. -/
theorem joined_apply (M S : FVec Ideal S1024 .f32) (i : Fin 1024) :
    shapeCast S1024 (addf (broadcastInDim S1024x1 ![0] bcast_S1024_S1024x1_0 M) (Host.log (broadcastInDim S1024x1 ![0] bcast_S1024_S1024x1_0 S))) shapeCasts_S1024x1_S1024 (ix1 i)
      = M (ix1 i) + Ideal.log (S (ix1 i)) := by
  pointwise

/-- The exponential of a logit less its token's `M`. -/
theorem shifted_apply (L : FVec Ideal S1024x32768 .f32) (M : FVec Ideal S1024 .f32) (i : Fin 1024) (q : Fin 32768) :
    Host.exp (subf L (broadcastInDim S1024x32768 ![0, 1] bcast_S1024x1_S1024x32768_0_1 (broadcastInDim S1024x1 ![0] bcast_S1024_S1024x1_0 M))) (ix2 i q)
      = Ideal.exp (L (ix2 i q) - M (ix1 i)) := by
  pointwise

theorem lse_apply (L : FVec Ideal S1024x32768 .f32) (i : Fin 1024) :
    lse L (ix1 i) = mx L (ix1 i) + Ideal.log (∑ v : Fin 32768, Ideal.exp (L (ix2 i v) - mx L (ix1 i))) := by
  unfold lse
  generalize mx L = M
  rw [joined_apply, rowsum_apply]
  rw [Finset.sum_congr rfl fun v _ => shifted_apply L M i v]

/-- A difference, token by token. -/
theorem diff_apply (A B : FVec Ideal S1024 .f32) (i : Fin 1024) : subf A B (ix1 i) = A (ix1 i) - B (ix1 i) := rfl

theorem pairs_apply0 (a b : IVec S1024x1 32) (i : Fin 1024) : pairs a b (ix2 i (0 : Fin 2)) = a (ix2 i (0 : Fin 1)) := by
  unfold pairs
  pointwise
theorem pairs_apply1 (a b : IVec S1024x1 32) (i : Fin 1024) : pairs a b (ix2 i (1 : Fin 2)) = b (ix2 i (0 : Fin 1)) := by
  unfold pairs
  pointwise

theorem wrapped_apply (n : BitVec 32) (v : IVec S1024 32) (i : Fin 1024) :
    wrapped n v (ix2 i (0 : Fin 1)) = Scalar.select (IntOp.cmpi CmpIPredicate.slt (v (ix1 i)) 0#32) (IntOp.addi (v (ix1 i)) n) (v (ix1 i)) := by
  unfold wrapped
  pointwise

/-- The reference at token `i`, for a label that names a column. -/
theorem out_apply (x : FVec Ideal S1024x2048 .f32) (w : FVec Ideal S2048x32768 .f32) (lab : IVec S1024 32) (i : Fin 1024)
    (q : Fin 32768) (hq : (lab (ix1 i)).toNat = q.val) (L : Fin 32768 → EReal) (hL : ∀ v, (∑ k : Fin 2048, x (ix2 i k) * w (ix2 k v)) = L v) :
    out x w lab (ix1 i)
      = (Finset.univ.fold max (⊥ : EReal) L + Ideal.log (∑ v, Ideal.exp (L v - Finset.univ.fold max (⊥ : EReal) L))) - L q := by
  have e1 : ∀ v : Fin 32768, Host.dotGeneral dot_S1024x2048_S2048x32768_S1024x32768_1_0_0_1_n_n none x w (ix2 i v) = L v :=
    fun v => (dot_apply x w i v).trans (hL v)
  have em : mx (Host.dotGeneral dot_S1024x2048_S2048x32768_S1024x32768_1_0_0_1_n_n none x w) (ix1 i) = Finset.univ.fold max (⊥ : EReal) L :=
    (mx_apply _ i).trans (congrArg (fun f => Finset.univ.fold max (⊥ : EReal) f) (funext e1))
  have ea : lse (Host.dotGeneral dot_S1024x2048_S2048x32768_S1024x32768_1_0_0_1_n_n none x w) (ix1 i)
      = Finset.univ.fold max (⊥ : EReal) L + Ideal.log (∑ v, Ideal.exp (L v - Finset.univ.fold max (⊥ : EReal) L)) := by
    rw [lse_apply, em]
    simp only [e1]
  have h0 : (⟨min (pairs (wrapped 1024#32 (iotaInDim S1024 32 0)) (wrapped 32768#32 lab) (ix2 i (0 : Fin 2))).toInt.toNat 1023, by omega⟩ : Fin 1024) = i := by
    refine Fin.ext ?_
    show min (pairs _ _ (ix2 i (0 : Fin 2))).toInt.toNat 1023 = i.val
    have hi : iotaInDim S1024 32 0 (ix1 i) = BitVec.ofNat 32 i.val := rfl
    rw [pairs_apply0, wrapped_apply, hi, word_small i.val _ _ (by rw [BitVec.toNat_ofNat]; omega) (by omega)]
    omega
  have h1 : (⟨min (pairs (wrapped 1024#32 (iotaInDim S1024 32 0)) (wrapped 32768#32 lab) (ix2 i (1 : Fin 2))).toInt.toNat 32767, by omega⟩ : Fin 32768) = q := by
    refine Fin.ext ?_
    show min (pairs _ _ (ix2 i (1 : Fin 2))).toInt.toNat 32767 = q.val
    rw [pairs_apply1, wrapped_apply, word_small q.val _ _ hq (by omega)]
    omega
  unfold out
  rw [diff_apply, ea, gather_pair, h0, h1, e1]

end Cert.ReferenceIdeal.Value

end
-- ==== Proof.Value.lean ====
/-
  The value claim: from finite floats and labels that name a column, every device's result and the reference's are the same
  vector.
-/
module

public import proofs.«01_k».proof.Defs
public import proofs.«01_k».proof.Proof.Frames
public import proofs.«01_k».proof.Proof.KernelValue
public import proofs.«01_k».proof.Proof.RefValue
public import Idealize.ShloMosaic.Lib.ValueLayoutCasts

@[expose] public section

noncomputable section

namespace Cert.Proof

open Idealize.ShloMosaic Idealize.ShloMosaic.TcCoe Idealize.SL.Sem

/-- The precondition's own shape relations, over a device's blocks and over the whole arrays. -/
theorem facts_blocks : Cert.Pre_finite_and_labelled_KernelIdeal.Facts := ⟨by decide, by decide, by decide⟩
theorem facts_whole : Cert.Pre_finite_and_labelled_ReferenceIdeal.Facts := ⟨by decide, by decide, by decide⟩

attribute [local instance] facts_blocks

/-- Plus infinity's bit pattern. -/
theorem pos_inf : Ideal.ofBits .f32 0x7F800000#32 = (⊤ : EReal) := by simp [Ideal.ofBits, Ideal.ieee]

/-- A float that passes the finiteness test is a real. -/
theorem real_of_test (a : EReal) (h : Ideal.cmp .olt (max a (-a)) ⊤ = 1#1) : ∃ r : ℝ, a = r := by
  refine Loss.real_of_abs_lt a ?_
  by_contra hn
  have : Ideal.cmp .olt (max a (-a)) ⊤ = 0#1 := by simp [Ideal.cmp, hn]
  rw [this] at h
  exact absurd h (by decide)

/-- Two one-bit words whose conjunction is 1 are both 1. -/
theorem both (p q : Bool) (h : BitVec.ofBool p &&& BitVec.ofBool q = 1#1) : (p && q) = true := by
  revert p q; decide

/-- A label that passes the range test is the number of a column. -/
theorem col_of_test (b : BitVec 32) (h : IntOp.andi (IntOp.cmpi .sge b 0#32) (IntOp.cmpi .slt b 32768#32) = 1#1) : b.toNat < 32768 := by
  have h1 : BitVec.ofBool (BitVec.sle 0#32 b) &&& BitVec.ofBool (b.slt 32768#32) = 1#1 := h
  have h2 : (BitVec.sle 0#32 b && b.slt 32768#32) = true := both _ _ h1
  rw [Bool.and_eq_true, BitVec.sle_eq_decide, BitVec.slt_eq_decide, decide_eq_true_iff, decide_eq_true_iff] at h2
  have e0 : (0#32 : BitVec 32).toInt = 0 := by decide
  have e1 : (32768#32 : BitVec 32).toInt = 32768 := by decide
  rw [e0, e1, BitVec.toInt_eq_toNat_cond] at h2
  have := b.isLt
  split at h2 <;> omega

/-- What the precondition says of a device's blocks. -/
theorem pre_read (x : FVec Ideal ⟨2, ![1024, 2048]⟩ .f32) (w : FVec Ideal ⟨2, ![2048, 16384]⟩ .f32) (lab : IVec ⟨1, ![1024]⟩ 32)
    (h : (Cert.Pre_finite_and_labelled_KernelIdeal.fn (F := Ideal) x w lab).1 = (fun _ => 1#1)
      ∧ (Cert.Pre_finite_and_labelled_KernelIdeal.fn (F := Ideal) x w lab).2.1 = (fun _ => 1#1)
      ∧ (Cert.Pre_finite_and_labelled_KernelIdeal.fn (F := Ideal) x w lab).2.2 = (fun _ => 1#1)) :
    (∀ i, ∃ r : ℝ, x i = r) ∧ (∀ i, ∃ r : ℝ, w i = r) ∧ ∀ i, (lab i).toNat < 32768 := by
  obtain ⟨h1, h2, h3⟩ := h
  exact ⟨fun i => real_of_test _ (by rw [← pos_inf]; exact congrFun h1 i), fun i => real_of_test _ (by rw [← pos_inf]; exact congrFun h2 i),
    fun i => col_of_test _ (congrFun h3 i)⟩

section
open Cert.KernelIdeal Cert.KernelIdeal.Gen Cert.KernelIdeal.Run

/-- The labels as the kernel's call receives them: the argument, as a column. -/
theorem lab_apply (m : (ℓ : Loc nD τ sig) → Buf (Elt Ideal) ℓ) (c : Dev nD) (i : Fin 1024) :
    (inp m c).lab (ix2 i (0 : Fin 1)) = m ((c.tc : Thread nD τ).loc main_arg2) (ix1 i) := by
  have e : V m c main_v1 = shapeCast S1024x1 (m ((c.tc : Thread nD τ).loc main_arg2)) Facts₀.shapeCasts_S1024_S1024x1  := rfl
  show V m c main_v1 (ix2 i (0 : Fin 1)) = _
  rw [e]
  exact ValueIdx.shapeCast_a_a1_apply _ _ i (0 : Fin 1)

/-- A column read as a vector. -/
theorem vec_apply (v : FVec Ideal S1024x1 .f32) (i : Fin 1024) : shapeCast S1024 v Facts₀.shapeCasts_S1024x1_S1024 (ix1 i) = v (ix2 i (0 : Fin 1)) := by
  pointwise

/-- Each entry of the whole `W` is an entry of a device's half. -/
theorem whole_real (W : FVec Ideal ⟨2, ![2048, 32768]⟩ .f32)
    (h : ∀ (c : Dev nD) i, ∃ r : ℝ, (Layout.blockN ⟨2, ![2048, 16384]⟩ ⟨2, ![2048, 32768]⟩ (Layout.meshBlock [2, 2, 2] ![[], [0]] c) W) i = r)
    (k : Fin 2048) (v : Fin 32768) : ∃ r : ℝ, W (ix2 k v) = r := by
  have hv := v.isLt
  by_cases hlt : v.val < 16384
  · have h0 := half_apply W (0 : Dev nD) k ⟨v.val, hlt⟩ (by show 16384 * (0 / 4) + v.val < 32768; omega)
    obtain ⟨r, hr⟩ := h 0 (ix2 k ⟨v.val, hlt⟩)
    refine ⟨r, Eq.trans (congrArg W (congrArg (ix2 k) (Fin.ext ?_))) (h0.symm.trans hr)⟩
    show v.val = 16384 * (0 / 4) + v.val
    omega
  · have h0 := half_apply W (4 : Dev nD) k ⟨v.val - 16384, by omega⟩ (by show 16384 * (4 / 4) + (v.val - 16384) < 32768; omega)
    obtain ⟨r, hr⟩ := h 4 (ix2 k ⟨v.val - 16384, by omega⟩)
    refine ⟨r, Eq.trans (congrArg W (congrArg (ix2 k) (Fin.ext ?_))) (h0.symm.trans hr)⟩
    show v.val = 16384 * (4 / 4) + (v.val - 16384)
    omega

/-- Every device's result is the reference's. -/
theorem same_result (m : (ℓ : Loc nD τ sig) → Buf (Elt Ideal) ℓ) (X : FVec Ideal ⟨2, ![1024, 2048]⟩ .f32)
    (W : FVec Ideal ⟨2, ![2048, 32768]⟩ .f32) (Y : IVec ⟨1, ![1024]⟩ 32)
    (hpre : Cert.Pre_KernelIdeal_finite_and_labelled_KernelIdeal m)
    (hx : ∀ c : Dev nD, m ((c.tc : Thread nD τ).loc main_arg0) = X)
    (hw : ∀ c : Dev nD, m ((c.tc : Thread nD τ).loc main_arg1) = Layout.blockN ⟨2, ![2048, 16384]⟩ ⟨2, ![2048, 32768]⟩ (Layout.meshBlock [2, 2, 2] ![[], [0]] c) W)
    (hy : ∀ c : Dev nD, m ((c.tc : Thread nD τ).loc main_arg2) = Y) (c : Dev nD) :
    shapeCast S1024 (res (inp m) c) Facts₀.shapeCasts_S1024x1_S1024 = Cert.ReferenceIdeal.Value.out X W Y := by
  have hp := fun c => pre_read _ _ _ (hpre c)
  have hX : ∀ i, ∃ r : ℝ, X i = r := by rw [← hx 0]; exact (hp 0).1
  have hY : ∀ i, (Y i).toNat < 32768 := by rw [← hy 0]; exact (hp 0).2.2
  have hW := whole_real W fun c => by rw [← hw c]; exact (hp c).2.1
  funext j
  obtain ⟨i, rfl⟩ : ∃ i : Fin 1024, j = ix1 i := ⟨j 0, (ix1_eta j).symm⟩
  have hL : ∀ v : Fin 32768, ∃ r : ℝ, (∑ k : Fin 2048, X (ix2 i k) * W (ix2 k v)) = r := fun v =>
    Loss.real_dot _ _ (fun k => hX _) (fun k => hW k v)
  rw [vec_apply, res_value (inp m) X W (fun c => (V_main_arg0 m c).trans (hx c)) (fun c => (V_main_arg1 m c).trans (hw c)) c i
      ⟨(Y (ix1 i)).toNat, hY _⟩ (fun d => by rw [lab_apply, hy d]),
    Cert.ReferenceIdeal.Value.out_apply X W Y i ⟨(Y (ix1 i)).toNat, hY _⟩ rfl (fun v => ∑ k : Fin 2048, X (ix2 i k) * W (ix2 k v)) (fun _ => rfl)]
  exact (Loss.loss_eq (n := 32767) (fun v => ∑ k : Fin 2048, X (ix2 i k) * W (ix2 k v)) hL _).symm

end

/-- From finite floats and labels that name a column: the kernel on its eight devices and the reference on one both end, and
    every device's result is the reference's. -/
theorem value : Cert.algebraic_KernelIdeal_ReferenceIdeal_pre_finite_and_labelled_KernelIdeal := fun m g m' g' hpre hin =>
  ⟨Cert.ReferenceIdeal.Value.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c => ⟨(h.1 c).1.trans
        (same_result m _ _ _ hpre (fun c => (hin c).1) (fun c => (hin c).2.1) (fun c => (hin c).2.2) c), (h.1 c).2⟩)
      (Cert.KernelIdeal.Run.run_main (F := Ideal) m g),
    (θ_run Cert.ReferenceIdeal.defs _ _).mono (fun _ h => h 0) (Cert.ReferenceIdeal.Value.run (F := Ideal) m' g')⟩

end Cert.Proof

end
-- ==== Proof.lean ====
/-
  The certificate: the frames of the kernel, its idealization and the reference, the idealization's faithfulness, and the
  value claim.
-/
module

public import proofs.«01_k».proof.Defs
public import proofs.«01_k».proof.Proof.Frames
public import proofs.«01_k».proof.Proof.Value
public import proofs.«01_k».proof.Proof.Gen.ReferenceIdeal.Run

@[expose] public section

noncomputable section

namespace Cert.Proof

open Idealize.ShloMosaic Idealize.SL.Sem

/-- Every claim. The two frames under the precondition are the frames without it. -/
theorem claim : Cert.Claim := ⟨Cert.Kernel.Gen.facts, Cert.KernelIdeal.Gen.facts, Cert.ReferenceIdeal.Gen.facts, facts_blocks, facts_whole,
  frame_kernel, frame_ideal, fun m g _ => frame_ideal m g trivial, frame_reference, fun m g _ => frame_reference m g trivial, trivial, value⟩

end Cert.Proof

end
